-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S65536x1024 : Shape := ⟨2, ![65536, 1024]⟩
abbrev S_ : Shape := ⟨0, ![]⟩
abbrev S3 : Shape := ⟨1, ![3]⟩
abbrev S1 : Shape := ⟨1, ![1]⟩
abbrev S2048x1024 : Shape := ⟨2, ![2048, 1024]⟩

abbrev nBuf : Space → Nat
  | .hbm => 2
  | .vmem => 1
  | .smem => 0
  | _ => 0

abbrev bufTy : (tb : Table) → Fin (tcTables nBuf tb) → BufTy
  | .hbm, ⟨0, _⟩ => ⟨S4096x1024, .bf16⟩
  | .hbm, ⟨1, _⟩ => ⟨S65536x1024, .bf16⟩
  | .local _ .vmem, ⟨0, _⟩ => ⟨S4096x1024, .bf16⟩
  | _, _ => ⟨S4096x1024, .bf16⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c1_i32_7 : BitVec 32 := 1#32
  let v14 : BitVec 32 := Scalar.muli v7 c1_i32_7
  let v15 : BitVec 32 := Scalar.addi c0_i32 v14
  v15.toNat
def k0_dev2 (d0 : Dev nD) : Nat :=
  let c0_i32_10 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c1_i32_9 : BitVec 32 := 1#32
  let v16 : BitVec 32 := Scalar.muli v10 c1_i32_9
  let v17 : BitVec 32 := Scalar.addi c0_i32_10 v16
  v17.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_11 : BitVec 32 := 3#32
  let v18 : BitVec 1 := Scalar.cmpi .slt v3 c3_i32_11
  let v19 : BitVec 32 := Scalar.extui v18
  let c0_i32_12 : BitVec 32 := 0#32
  let v20 : BitVec 1 := Scalar.cmpi .ne v19 c0_i32_12
  v20

def k0_dev3 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_4 : BitVec 32 := 4#32
  let v11 : BitVec 32 := Scalar.addi v2 c4_i32_4
  let c1_i32_144 : BitVec 32 := 1#32
  let v183 : BitVec 32 := Scalar.muli v11 c1_i32_144
  let v184 : BitVec 32 := Scalar.addi c0_i32_145 v183
  v184.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_13 : BitVec 32 := 0#32
  let v21 : BitVec 1 := Scalar.cmpi .sgt v3 c0_i32_13
  let v22 : BitVec 32 := Scalar.extui v21
  let c0_i32_14 : BitVec 32 := 0#32
  let v23 : BitVec 1 := Scalar.cmpi .ne v22 c0_i32_14
  v23

def k0_dev4 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v12 : BitVec 32 := Scalar.subi v2 c4_i32_5
  let c1_i32_144 : BitVec 32 := 1#32
  let v183 : BitVec 32 := Scalar.muli v12 c1_i32_144
  let v184 : BitVec 32 := Scalar.addi c0_i32_145 v183
  v184.toNat
def k0_amt1 (d0 : Dev nD) : BitVec 32 :=
  let c2_i32 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_15 : BitVec 32 := 3#32
  let v24 : BitVec 1 := Scalar.cmpi .slt v3 c3_i32_15
  let v25 : BitVec 32 := Scalar.extui v24
  let v26 : BitVec 32 := Scalar.addi c2_i32 v25
  let c0_i32_16 : BitVec 32 := 0#32
  let v27 : BitVec 1 := Scalar.cmpi .sgt v3 c0_i32_16
  let v28 : BitVec 32 := Scalar.extui v27
  let v29 : BitVec 32 := Scalar.addi v26 v28
  v29

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4096_i32 : BitVec 32 := 4096#32
  let v30 : BitVec 32 := Scalar.muli v2 c4096_i32
  let c0_i32_17 : BitVec 32 := 0#32
  ![v30.toNat, 0]
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_18 : BitVec 32 := 3#32
  let v32 : BitVec 1 := Scalar.cmpi .slt v3 c3_i32_18
  let v33 : BitVec 32 := Scalar.extui v32
  let c0_i32_19 : BitVec 32 := 0#32
  let v34 : BitVec 1 := Scalar.cmpi .ne v33 c0_i32_19
  v34

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4096_i32_143 : BitVec 32 := 4096#32
  let v183 : BitVec 32 := Scalar.muli v2 c4096_i32_143
  let c0_i32_148 : BitVec 32 := 0#32
  ![v183.toNat, 0]
def k0_dev5 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_4 : BitVec 32 := 4#32
  let v11 : BitVec 32 := Scalar.addi v2 c4_i32_4
  let c1_i32_146 : BitVec 32 := 1#32
  let v184 : BitVec 32 := Scalar.muli v11 c1_i32_146
  let v185 : BitVec 32 := Scalar.addi c0_i32_147 v184
  v185.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_20 : BitVec 32 := 0#32
  let v35 : BitVec 1 := Scalar.cmpi .sgt v3 c0_i32_20
  let v36 : BitVec 32 := Scalar.extui v35
  let c0_i32_21 : BitVec 32 := 0#32
  let v37 : BitVec 1 := Scalar.cmpi .ne v36 c0_i32_21
  v37

def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4096_i32_143 : BitVec 32 := 4096#32
  let v183 : BitVec 32 := Scalar.muli v2 c4096_i32_143
  let c0_i32_148 : BitVec 32 := 0#32
  ![v183.toNat, 0]
def k0_dev6 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v12 : BitVec 32 := Scalar.subi v2 c4_i32_5
  let c1_i32_146 : BitVec 32 := 1#32
  let v184 : BitVec 32 := Scalar.muli v12 c1_i32_146
  let v185 : BitVec 32 := Scalar.addi c0_i32_147 v184
  v185.toNat
def k0_dev7 (d0 : Dev nD) : Nat :=
  let c0_i32_24 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c1_i32_23 : BitVec 32 := 1#32
  let v39 : BitVec 32 := Scalar.muli v7 c1_i32_23
  let v40 : BitVec 32 := Scalar.addi c0_i32_24 v39
  v40.toNat
def k0_dev8 (d0 : Dev nD) : Nat :=
  let c0_i32_28 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c1_i32_27 : BitVec 32 := 1#32
  let v43 : BitVec 32 := Scalar.muli v10 c1_i32_27
  let v44 : BitVec 32 := Scalar.addi c0_i32_28 v43
  v44.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_30 : BitVec 32 := 1#32
  let v46 : BitVec 1 := Scalar.cmpi .sge v3 c1_i32_30
  let v47 : BitVec 32 := Scalar.extui v46
  let c0_i32_31 : BitVec 32 := 0#32
  let v48 : BitVec 1 := Scalar.cmpi .ne v47 c0_i32_31
  v48

def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_143 : BitVec 32 := 4#32
  let v183 : BitVec 32 := Scalar.subi v2 c4_i32_143
  let c4096_i32_145 : BitVec 32 := 4096#32
  let v185 : BitVec 32 := Scalar.muli v183 c4096_i32_145
  let c0_i32_150 : BitVec 32 := 0#32
  ![v185.toNat, 0]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_152 : BitVec 32 := 3#32
  let v192 : BitVec 1 := Scalar.cmpi .slt v3 c3_i32_152
  let v193 : BitVec 32 := Scalar.extui v192
  let c0_i32_153 : BitVec 32 := 0#32
  let v194 : BitVec 1 := Scalar.cmpi .ne v193 c0_i32_153
  v194

def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_143 : BitVec 32 := 4#32
  let v183 : BitVec 32 := Scalar.subi v2 c4_i32_143
  let c4096_i32_171 : BitVec 32 := 4096#32
  let v216 : BitVec 32 := Scalar.muli v183 c4096_i32_171
  let c0_i32_176 : BitVec 32 := 0#32
  ![v216.toNat, 0]
def k0_dev9 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_4 : BitVec 32 := 4#32
  let v11 : BitVec 32 := Scalar.addi v2 c4_i32_4
  let c1_i32_174 : BitVec 32 := 1#32
  let v217 : BitVec 32 := Scalar.muli v11 c1_i32_174
  let v218 : BitVec 32 := Scalar.addi c0_i32_175 v217
  v218.toNat
def k0_dev10 (d0 : Dev nD) : Nat :=
  let c0_i32_159 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c1_i32_158 : BitVec 32 := 1#32
  let v197 : BitVec 32 := Scalar.muli v7 c1_i32_158
  let v198 : BitVec 32 := Scalar.addi c0_i32_159 v197
  v198.toNat
def k0_dev11 (d0 : Dev nD) : Nat :=
  let c0_i32_167 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c1_i32_166 : BitVec 32 := 1#32
  let v207 : BitVec 32 := Scalar.muli v10 c1_i32_166
  let v208 : BitVec 32 := Scalar.addi c0_i32_167 v207
  v208.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_32 : BitVec 32 := 2#32
  let v49 : BitVec 1 := Scalar.cmpi .sle v3 c2_i32_32
  let v50 : BitVec 32 := Scalar.extui v49
  let c0_i32_33 : BitVec 32 := 0#32
  let v51 : BitVec 1 := Scalar.cmpi .ne v50 c0_i32_33
  v51

def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_143 : BitVec 32 := 4#32
  let v183 : BitVec 32 := Scalar.addi v2 c4_i32_143
  let c4096_i32_145 : BitVec 32 := 4096#32
  let v185 : BitVec 32 := Scalar.muli v183 c4096_i32_145
  let c0_i32_150 : BitVec 32 := 0#32
  ![v185.toNat, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_152 : BitVec 32 := 0#32
  let v192 : BitVec 1 := Scalar.cmpi .sgt v3 c0_i32_152
  let v193 : BitVec 32 := Scalar.extui v192
  let c0_i32_153 : BitVec 32 := 0#32
  let v194 : BitVec 1 := Scalar.cmpi .ne v193 c0_i32_153
  v194

def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_143 : BitVec 32 := 4#32
  let v183 : BitVec 32 := Scalar.addi v2 c4_i32_143
  let c4096_i32_171 : BitVec 32 := 4096#32
  let v216 : BitVec 32 := Scalar.muli v183 c4096_i32_171
  let c0_i32_176 : BitVec 32 := 0#32
  ![v216.toNat, 0]
def k0_dev12 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v12 : BitVec 32 := Scalar.subi v2 c4_i32_5
  let c1_i32_174 : BitVec 32 := 1#32
  let v217 : BitVec 32 := Scalar.muli v12 c1_i32_174
  let v218 : BitVec 32 := Scalar.addi c0_i32_175 v217
  v218.toNat
def k0_dev13 (d0 : Dev nD) : Nat :=
  let c0_i32_159 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c1_i32_158 : BitVec 32 := 1#32
  let v197 : BitVec 32 := Scalar.muli v7 c1_i32_158
  let v198 : BitVec 32 := Scalar.addi c0_i32_159 v197
  v198.toNat
def k0_dev14 (d0 : Dev nD) : Nat :=
  let c0_i32_167 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c1_i32_166 : BitVec 32 := 1#32
  let v207 : BitVec 32 := Scalar.muli v10 c1_i32_166
  let v208 : BitVec 32 := Scalar.addi c0_i32_167 v207
  v208.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_34 : BitVec 32 := 2#32
  let v52 : BitVec 1 := Scalar.cmpi .sge v3 c2_i32_34
  let v53 : BitVec 32 := Scalar.extui v52
  let c0_i32_35 : BitVec 32 := 0#32
  let v54 : BitVec 1 := Scalar.cmpi .ne v53 c0_i32_35
  v54

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v183 : BitVec 32 := Scalar.subi v2 c8_i32
  let c4096_i32_144 : BitVec 32 := 4096#32
  let v185 : BitVec 32 := Scalar.muli v183 c4096_i32_144
  let c0_i32_149 : BitVec 32 := 0#32
  ![v185.toNat, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_151 : BitVec 32 := 3#32
  let v192 : BitVec 1 := Scalar.cmpi .slt v3 c3_i32_151
  let v193 : BitVec 32 := Scalar.extui v192
  let c0_i32_152 : BitVec 32 := 0#32
  let v194 : BitVec 1 := Scalar.cmpi .ne v193 c0_i32_152
  v194

def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v183 : BitVec 32 := Scalar.subi v2 c8_i32
  let c4096_i32_170 : BitVec 32 := 4096#32
  let v216 : BitVec 32 := Scalar.muli v183 c4096_i32_170
  let c0_i32_175 : BitVec 32 := 0#32
  ![v216.toNat, 0]
def k0_dev15 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_4 : BitVec 32 := 4#32
  let v11 : BitVec 32 := Scalar.addi v2 c4_i32_4
  let c1_i32_173 : BitVec 32 := 1#32
  let v217 : BitVec 32 := Scalar.muli v11 c1_i32_173
  let v218 : BitVec 32 := Scalar.addi c0_i32_174 v217
  v218.toNat
def k0_dev16 (d0 : Dev nD) : Nat :=
  let c0_i32_158 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c1_i32_157 : BitVec 32 := 1#32
  let v197 : BitVec 32 := Scalar.muli v7 c1_i32_157
  let v198 : BitVec 32 := Scalar.addi c0_i32_158 v197
  v198.toNat
def k0_dev17 (d0 : Dev nD) : Nat :=
  let c0_i32_166 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c1_i32_165 : BitVec 32 := 1#32
  let v207 : BitVec 32 := Scalar.muli v10 c1_i32_165
  let v208 : BitVec 32 := Scalar.addi c0_i32_166 v207
  v208.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_36 : BitVec 32 := 1#32
  let v55 : BitVec 1 := Scalar.cmpi .sle v3 c1_i32_36
  let v56 : BitVec 32 := Scalar.extui v55
  let c0_i32_37 : BitVec 32 := 0#32
  let v57 : BitVec 1 := Scalar.cmpi .ne v56 c0_i32_37
  v57

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v183 : BitVec 32 := Scalar.addi v2 c8_i32
  let c4096_i32_144 : BitVec 32 := 4096#32
  let v185 : BitVec 32 := Scalar.muli v183 c4096_i32_144
  let c0_i32_149 : BitVec 32 := 0#32
  ![v185.toNat, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_151 : BitVec 32 := 0#32
  let v192 : BitVec 1 := Scalar.cmpi .sgt v3 c0_i32_151
  let v193 : BitVec 32 := Scalar.extui v192
  let c0_i32_152 : BitVec 32 := 0#32
  let v194 : BitVec 1 := Scalar.cmpi .ne v193 c0_i32_152
  v194

def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v183 : BitVec 32 := Scalar.addi v2 c8_i32
  let c4096_i32_170 : BitVec 32 := 4096#32
  let v216 : BitVec 32 := Scalar.muli v183 c4096_i32_170
  let c0_i32_175 : BitVec 32 := 0#32
  ![v216.toNat, 0]
def k0_dev18 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v12 : BitVec 32 := Scalar.subi v2 c4_i32_5
  let c1_i32_173 : BitVec 32 := 1#32
  let v217 : BitVec 32 := Scalar.muli v12 c1_i32_173
  let v218 : BitVec 32 := Scalar.addi c0_i32_174 v217
  v218.toNat
def k0_dev19 (d0 : Dev nD) : Nat :=
  let c0_i32_158 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c1_i32_157 : BitVec 32 := 1#32
  let v197 : BitVec 32 := Scalar.muli v7 c1_i32_157
  let v198 : BitVec 32 := Scalar.addi c0_i32_158 v197
  v198.toNat
def k0_dev20 (d0 : Dev nD) : Nat :=
  let c0_i32_166 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c1_i32_165 : BitVec 32 := 1#32
  let v207 : BitVec 32 := Scalar.muli v10 c1_i32_165
  let v208 : BitVec 32 := Scalar.addi c0_i32_166 v207
  v208.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_38 : BitVec 32 := 3#32
  let v58 : BitVec 1 := Scalar.cmpi .sge v3 c3_i32_38
  let v59 : BitVec 32 := Scalar.extui v58
  let c0_i32_39 : BitVec 32 := 0#32
  let v60 : BitVec 1 := Scalar.cmpi .ne v59 c0_i32_39
  v60

def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v183 : BitVec 32 := Scalar.subi v2 c12_i32
  let c4096_i32_144 : BitVec 32 := 4096#32
  let v185 : BitVec 32 := Scalar.muli v183 c4096_i32_144
  let c0_i32_149 : BitVec 32 := 0#32
  ![v185.toNat, 0]
def k0_dev21 (d0 : Dev nD) : Nat :=
  let c0_i32_156 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c1_i32_155 : BitVec 32 := 1#32
  let v194 : BitVec 32 := Scalar.muli v7 c1_i32_155
  let v195 : BitVec 32 := Scalar.addi c0_i32_156 v194
  v195.toNat
def k0_dev22 (d0 : Dev nD) : Nat :=
  let c0_i32_164 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c1_i32_163 : BitVec 32 := 1#32
  let v204 : BitVec 32 := Scalar.muli v10 c1_i32_163
  let v205 : BitVec 32 := Scalar.addi c0_i32_164 v204
  v205.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_40 : BitVec 32 := 0#32
  let v61 : BitVec 1 := Scalar.cmpi .sle v3 c0_i32_40
  let v62 : BitVec 32 := Scalar.extui v61
  let c0_i32_41 : BitVec 32 := 0#32
  let v63 : BitVec 1 := Scalar.cmpi .ne v62 c0_i32_41
  v63

def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v183 : BitVec 32 := Scalar.addi v2 c12_i32
  let c4096_i32_144 : BitVec 32 := 4096#32
  let v185 : BitVec 32 := Scalar.muli v183 c4096_i32_144
  let c0_i32_149 : BitVec 32 := 0#32
  ![v185.toNat, 0]
def k0_dev23 (d0 : Dev nD) : Nat :=
  let c0_i32_156 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c1_i32_155 : BitVec 32 := 1#32
  let v194 : BitVec 32 := Scalar.muli v7 c1_i32_155
  let v195 : BitVec 32 := Scalar.addi c0_i32_156 v194
  v195.toNat
def k0_dev24 (d0 : Dev nD) : Nat :=
  let c0_i32_164 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c1_i32_163 : BitVec 32 := 1#32
  let v204 : BitVec 32 := Scalar.muli v10 c1_i32_163
  let v205 : BitVec 32 := Scalar.addi c0_i32_164 v204
  v205.toNat
def k0_off14 (d0 : Dev nD) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c4096_i32_43 : BitVec 32 := 4096#32
  let v65 : BitVec 32 := Scalar.muli v7 c4096_i32_43
  let c0_i32_46 : BitVec 32 := 0#32
  ![v65.toNat, 0]
def k0_off15 (d0 : Dev nD) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c4096_i32_49 : BitVec 32 := 4096#32
  let v71 : BitVec 32 := Scalar.muli v7 c4096_i32_49
  let c0_i32_52 : BitVec 32 := 0#32
  ![v71.toNat, 0]
def k0_dev25 (d0 : Dev nD) : Nat :=
  let c0_i32_51 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c1_i32_50 : BitVec 32 := 1#32
  let v72 : BitVec 32 := Scalar.muli v10 c1_i32_50
  let v73 : BitVec 32 := Scalar.addi c0_i32_51 v72
  v73.toNat
def k0_off16 (d0 : Dev nD) : Fin 2 → Nat :=
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c4096_i32_55 : BitVec 32 := 4096#32
  let v77 : BitVec 32 := Scalar.muli v10 c4096_i32_55
  let c0_i32_58 : BitVec 32 := 0#32
  ![v77.toNat, 0]
def k0_off17 (d0 : Dev nD) : Fin 2 → Nat :=
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c4096_i32_61 : BitVec 32 := 4096#32
  let v84 : BitVec 32 := Scalar.muli v10 c4096_i32_61
  let c2048_i32_62 : BitVec 32 := 2048#32
  let v85 : BitVec 32 := Scalar.addi v84 c2048_i32_62
  let c0_i32_65 : BitVec 32 := 0#32
  ![v85.toNat, 0]
def k0_dev26 (d0 : Dev nD) : Nat :=
  let c0_i32_64 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c1_i32_63 : BitVec 32 := 1#32
  let v86 : BitVec 32 := Scalar.muli v7 c1_i32_63
  let v87 : BitVec 32 := Scalar.addi c0_i32_64 v86
  v87.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_67 : BitVec 32 := 1#32
  let v90 : BitVec 1 := Scalar.cmpi .sge v3 c1_i32_67
  let v91 : BitVec 32 := Scalar.extui v90
  let c0_i32_68 : BitVec 32 := 0#32
  let v92 : BitVec 1 := Scalar.cmpi .ne v91 c0_i32_68
  v92

def k0_off18 (d0 : Dev nD) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c4_i32_143 : BitVec 32 := 4#32
  let v183 : BitVec 32 := Scalar.subi v7 c4_i32_143
  let c4096_i32_145 : BitVec 32 := 4096#32
  let v185 : BitVec 32 := Scalar.muli v183 c4096_i32_145
  let c0_i32_150 : BitVec 32 := 0#32
  ![v185.toNat, 0]
def k0_off19 (d0 : Dev nD) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c4_i32_143 : BitVec 32 := 4#32
  let v183 : BitVec 32 := Scalar.subi v7 c4_i32_143
  let c4096_i32_153 : BitVec 32 := 4096#32
  let v193 : BitVec 32 := Scalar.muli v183 c4096_i32_153
  let c0_i32_158 : BitVec 32 := 0#32
  ![v193.toNat, 0]
def k0_dev27 (d0 : Dev nD) : Nat :=
  let c0_i32_157 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c1_i32_156 : BitVec 32 := 1#32
  let v194 : BitVec 32 := Scalar.muli v10 c1_i32_156
  let v195 : BitVec 32 := Scalar.addi c0_i32_157 v194
  v195.toNat
def k0_off20 (d0 : Dev nD) : Fin 2 → Nat :=
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c4_i32_160 : BitVec 32 := 4#32
  let v202 : BitVec 32 := Scalar.subi v10 c4_i32_160
  let c4096_i32_162 : BitVec 32 := 4096#32
  let v204 : BitVec 32 := Scalar.muli v202 c4096_i32_162
  let c0_i32_167 : BitVec 32 := 0#32
  ![v204.toNat, 0]
def k0_off21 (d0 : Dev nD) : Fin 2 → Nat :=
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c4_i32_160 : BitVec 32 := 4#32
  let v202 : BitVec 32 := Scalar.subi v10 c4_i32_160
  let c4096_i32_171 : BitVec 32 := 4096#32
  let v213 : BitVec 32 := Scalar.muli v202 c4096_i32_171
  let c2048_i32_172 : BitVec 32 := 2048#32
  let v214 : BitVec 32 := Scalar.addi v213 c2048_i32_172
  let c0_i32_177 : BitVec 32 := 0#32
  ![v214.toNat, 0]
def k0_dev28 (d0 : Dev nD) : Nat :=
  let c0_i32_176 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c1_i32_175 : BitVec 32 := 1#32
  let v215 : BitVec 32 := Scalar.muli v7 c1_i32_175
  let v216 : BitVec 32 := Scalar.addi c0_i32_176 v215
  v216.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_69 : BitVec 32 := 2#32
  let v93 : BitVec 1 := Scalar.cmpi .sle v3 c2_i32_69
  let v94 : BitVec 32 := Scalar.extui v93
  let c0_i32_70 : BitVec 32 := 0#32
  let v95 : BitVec 1 := Scalar.cmpi .ne v94 c0_i32_70
  v95

def k0_off22 (d0 : Dev nD) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c4_i32_143 : BitVec 32 := 4#32
  let v183 : BitVec 32 := Scalar.addi v7 c4_i32_143
  let c4096_i32_145 : BitVec 32 := 4096#32
  let v185 : BitVec 32 := Scalar.muli v183 c4096_i32_145
  let c0_i32_150 : BitVec 32 := 0#32
  ![v185.toNat, 0]
def k0_off23 (d0 : Dev nD) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c4_i32_143 : BitVec 32 := 4#32
  let v183 : BitVec 32 := Scalar.addi v7 c4_i32_143
  let c4096_i32_153 : BitVec 32 := 4096#32
  let v193 : BitVec 32 := Scalar.muli v183 c4096_i32_153
  let c0_i32_158 : BitVec 32 := 0#32
  ![v193.toNat, 0]
def k0_dev29 (d0 : Dev nD) : Nat :=
  let c0_i32_157 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c1_i32_156 : BitVec 32 := 1#32
  let v194 : BitVec 32 := Scalar.muli v10 c1_i32_156
  let v195 : BitVec 32 := Scalar.addi c0_i32_157 v194
  v195.toNat
def k0_off24 (d0 : Dev nD) : Fin 2 → Nat :=
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c4_i32_160 : BitVec 32 := 4#32
  let v202 : BitVec 32 := Scalar.addi v10 c4_i32_160
  let c4096_i32_162 : BitVec 32 := 4096#32
  let v204 : BitVec 32 := Scalar.muli v202 c4096_i32_162
  let c0_i32_167 : BitVec 32 := 0#32
  ![v204.toNat, 0]
def k0_off25 (d0 : Dev nD) : Fin 2 → Nat :=
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c4_i32_160 : BitVec 32 := 4#32
  let v202 : BitVec 32 := Scalar.addi v10 c4_i32_160
  let c4096_i32_171 : BitVec 32 := 4096#32
  let v213 : BitVec 32 := Scalar.muli v202 c4096_i32_171
  let c2048_i32_172 : BitVec 32 := 2048#32
  let v214 : BitVec 32 := Scalar.addi v213 c2048_i32_172
  let c0_i32_177 : BitVec 32 := 0#32
  ![v214.toNat, 0]
def k0_dev30 (d0 : Dev nD) : Nat :=
  let c0_i32_176 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c1_i32_175 : BitVec 32 := 1#32
  let v215 : BitVec 32 := Scalar.muli v7 c1_i32_175
  let v216 : BitVec 32 := Scalar.addi c0_i32_176 v215
  v216.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_71 : BitVec 32 := 2#32
  let v96 : BitVec 1 := Scalar.cmpi .sge v3 c2_i32_71
  let v97 : BitVec 32 := Scalar.extui v96
  let c0_i32_72 : BitVec 32 := 0#32
  let v98 : BitVec 1 := Scalar.cmpi .ne v97 c0_i32_72
  v98

def k0_off26 (d0 : Dev nD) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c8_i32 : BitVec 32 := 8#32
  let v183 : BitVec 32 := Scalar.subi v7 c8_i32
  let c4096_i32_144 : BitVec 32 := 4096#32
  let v185 : BitVec 32 := Scalar.muli v183 c4096_i32_144
  let c0_i32_149 : BitVec 32 := 0#32
  ![v185.toNat, 0]
def k0_off27 (d0 : Dev nD) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c8_i32 : BitVec 32 := 8#32
  let v183 : BitVec 32 := Scalar.subi v7 c8_i32
  let c4096_i32_152 : BitVec 32 := 4096#32
  let v193 : BitVec 32 := Scalar.muli v183 c4096_i32_152
  let c0_i32_157 : BitVec 32 := 0#32
  ![v193.toNat, 0]
def k0_dev31 (d0 : Dev nD) : Nat :=
  let c0_i32_156 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c1_i32_155 : BitVec 32 := 1#32
  let v194 : BitVec 32 := Scalar.muli v10 c1_i32_155
  let v195 : BitVec 32 := Scalar.addi c0_i32_156 v194
  v195.toNat
def k0_off28 (d0 : Dev nD) : Fin 2 → Nat :=
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c8_i32_159 : BitVec 32 := 8#32
  let v202 : BitVec 32 := Scalar.subi v10 c8_i32_159
  let c4096_i32_161 : BitVec 32 := 4096#32
  let v204 : BitVec 32 := Scalar.muli v202 c4096_i32_161
  let c0_i32_166 : BitVec 32 := 0#32
  ![v204.toNat, 0]
def k0_off29 (d0 : Dev nD) : Fin 2 → Nat :=
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c8_i32_159 : BitVec 32 := 8#32
  let v202 : BitVec 32 := Scalar.subi v10 c8_i32_159
  let c4096_i32_170 : BitVec 32 := 4096#32
  let v213 : BitVec 32 := Scalar.muli v202 c4096_i32_170
  let c2048_i32_171 : BitVec 32 := 2048#32
  let v214 : BitVec 32 := Scalar.addi v213 c2048_i32_171
  let c0_i32_176 : BitVec 32 := 0#32
  ![v214.toNat, 0]
def k0_dev32 (d0 : Dev nD) : Nat :=
  let c0_i32_175 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c1_i32_174 : BitVec 32 := 1#32
  let v215 : BitVec 32 := Scalar.muli v7 c1_i32_174
  let v216 : BitVec 32 := Scalar.addi c0_i32_175 v215
  v216.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_73 : BitVec 32 := 1#32
  let v99 : BitVec 1 := Scalar.cmpi .sle v3 c1_i32_73
  let v100 : BitVec 32 := Scalar.extui v99
  let c0_i32_74 : BitVec 32 := 0#32
  let v101 : BitVec 1 := Scalar.cmpi .ne v100 c0_i32_74
  v101

def k0_off30 (d0 : Dev nD) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c8_i32 : BitVec 32 := 8#32
  let v183 : BitVec 32 := Scalar.addi v7 c8_i32
  let c4096_i32_144 : BitVec 32 := 4096#32
  let v185 : BitVec 32 := Scalar.muli v183 c4096_i32_144
  let c0_i32_149 : BitVec 32 := 0#32
  ![v185.toNat, 0]
def k0_off31 (d0 : Dev nD) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c8_i32 : BitVec 32 := 8#32
  let v183 : BitVec 32 := Scalar.addi v7 c8_i32
  let c4096_i32_152 : BitVec 32 := 4096#32
  let v193 : BitVec 32 := Scalar.muli v183 c4096_i32_152
  let c0_i32_157 : BitVec 32 := 0#32
  ![v193.toNat, 0]
def k0_dev33 (d0 : Dev nD) : Nat :=
  let c0_i32_156 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c1_i32_155 : BitVec 32 := 1#32
  let v194 : BitVec 32 := Scalar.muli v10 c1_i32_155
  let v195 : BitVec 32 := Scalar.addi c0_i32_156 v194
  v195.toNat
def k0_off32 (d0 : Dev nD) : Fin 2 → Nat :=
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c8_i32_159 : BitVec 32 := 8#32
  let v202 : BitVec 32 := Scalar.addi v10 c8_i32_159
  let c4096_i32_161 : BitVec 32 := 4096#32
  let v204 : BitVec 32 := Scalar.muli v202 c4096_i32_161
  let c0_i32_166 : BitVec 32 := 0#32
  ![v204.toNat, 0]
def k0_off33 (d0 : Dev nD) : Fin 2 → Nat :=
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c8_i32_159 : BitVec 32 := 8#32
  let v202 : BitVec 32 := Scalar.addi v10 c8_i32_159
  let c4096_i32_170 : BitVec 32 := 4096#32
  let v213 : BitVec 32 := Scalar.muli v202 c4096_i32_170
  let c2048_i32_171 : BitVec 32 := 2048#32
  let v214 : BitVec 32 := Scalar.addi v213 c2048_i32_171
  let c0_i32_176 : BitVec 32 := 0#32
  ![v214.toNat, 0]
def k0_dev34 (d0 : Dev nD) : Nat :=
  let c0_i32_175 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c1_i32_174 : BitVec 32 := 1#32
  let v215 : BitVec 32 := Scalar.muli v7 c1_i32_174
  let v216 : BitVec 32 := Scalar.addi c0_i32_175 v215
  v216.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_75 : BitVec 32 := 3#32
  let v102 : BitVec 1 := Scalar.cmpi .sge v3 c3_i32_75
  let v103 : BitVec 32 := Scalar.extui v102
  let c0_i32_76 : BitVec 32 := 0#32
  let v104 : BitVec 1 := Scalar.cmpi .ne v103 c0_i32_76
  v104

def k0_off34 (d0 : Dev nD) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c12_i32 : BitVec 32 := 12#32
  let v183 : BitVec 32 := Scalar.subi v7 c12_i32
  let c4096_i32_144 : BitVec 32 := 4096#32
  let v185 : BitVec 32 := Scalar.muli v183 c4096_i32_144
  let c0_i32_149 : BitVec 32 := 0#32
  ![v185.toNat, 0]
def k0_off35 (d0 : Dev nD) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c12_i32 : BitVec 32 := 12#32
  let v183 : BitVec 32 := Scalar.subi v7 c12_i32
  let c4096_i32_152 : BitVec 32 := 4096#32
  let v193 : BitVec 32 := Scalar.muli v183 c4096_i32_152
  let c0_i32_157 : BitVec 32 := 0#32
  ![v193.toNat, 0]
def k0_dev35 (d0 : Dev nD) : Nat :=
  let c0_i32_156 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c1_i32_155 : BitVec 32 := 1#32
  let v194 : BitVec 32 := Scalar.muli v10 c1_i32_155
  let v195 : BitVec 32 := Scalar.addi c0_i32_156 v194
  v195.toNat
def k0_off36 (d0 : Dev nD) : Fin 2 → Nat :=
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c12_i32_159 : BitVec 32 := 12#32
  let v202 : BitVec 32 := Scalar.subi v10 c12_i32_159
  let c4096_i32_161 : BitVec 32 := 4096#32
  let v204 : BitVec 32 := Scalar.muli v202 c4096_i32_161
  let c0_i32_166 : BitVec 32 := 0#32
  ![v204.toNat, 0]
def k0_off37 (d0 : Dev nD) : Fin 2 → Nat :=
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c12_i32_159 : BitVec 32 := 12#32
  let v202 : BitVec 32 := Scalar.subi v10 c12_i32_159
  let c4096_i32_170 : BitVec 32 := 4096#32
  let v213 : BitVec 32 := Scalar.muli v202 c4096_i32_170
  let c2048_i32_171 : BitVec 32 := 2048#32
  let v214 : BitVec 32 := Scalar.addi v213 c2048_i32_171
  let c0_i32_176 : BitVec 32 := 0#32
  ![v214.toNat, 0]
def k0_dev36 (d0 : Dev nD) : Nat :=
  let c0_i32_175 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c1_i32_174 : BitVec 32 := 1#32
  let v215 : BitVec 32 := Scalar.muli v7 c1_i32_174
  let v216 : BitVec 32 := Scalar.addi c0_i32_175 v215
  v216.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_77 : BitVec 32 := 0#32
  let v105 : BitVec 1 := Scalar.cmpi .sle v3 c0_i32_77
  let v106 : BitVec 32 := Scalar.extui v105
  let c0_i32_78 : BitVec 32 := 0#32
  let v107 : BitVec 1 := Scalar.cmpi .ne v106 c0_i32_78
  v107

def k0_off38 (d0 : Dev nD) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c12_i32 : BitVec 32 := 12#32
  let v183 : BitVec 32 := Scalar.addi v7 c12_i32
  let c4096_i32_144 : BitVec 32 := 4096#32
  let v185 : BitVec 32 := Scalar.muli v183 c4096_i32_144
  let c0_i32_149 : BitVec 32 := 0#32
  ![v185.toNat, 0]
def k0_off39 (d0 : Dev nD) : Fin 2 → Nat :=
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c12_i32 : BitVec 32 := 12#32
  let v183 : BitVec 32 := Scalar.addi v7 c12_i32
  let c4096_i32_152 : BitVec 32 := 4096#32
  let v193 : BitVec 32 := Scalar.muli v183 c4096_i32_152
  let c0_i32_157 : BitVec 32 := 0#32
  ![v193.toNat, 0]
def k0_dev37 (d0 : Dev nD) : Nat :=
  let c0_i32_156 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c1_i32_155 : BitVec 32 := 1#32
  let v194 : BitVec 32 := Scalar.muli v10 c1_i32_155
  let v195 : BitVec 32 := Scalar.addi c0_i32_156 v194
  v195.toNat
def k0_off40 (d0 : Dev nD) : Fin 2 → Nat :=
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c12_i32_159 : BitVec 32 := 12#32
  let v202 : BitVec 32 := Scalar.addi v10 c12_i32_159
  let c4096_i32_161 : BitVec 32 := 4096#32
  let v204 : BitVec 32 := Scalar.muli v202 c4096_i32_161
  let c0_i32_166 : BitVec 32 := 0#32
  ![v204.toNat, 0]
def k0_off41 (d0 : Dev nD) : Fin 2 → Nat :=
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v8 : BitVec 32 := Scalar.muli c4_i32_3 v3
  let c3_i32 : BitVec 32 := 3#32
  let c4_i32_0 : BitVec 32 := 4#32
  let v4 : BitVec 32 := Scalar.remsi v2 c4_i32_0
  let v9 : BitVec 32 := Scalar.subi c3_i32 v4
  let v10 : BitVec 32 := Scalar.addi v8 v9
  let c12_i32_159 : BitVec 32 := 12#32
  let v202 : BitVec 32 := Scalar.addi v10 c12_i32_159
  let c4096_i32_170 : BitVec 32 := 4096#32
  let v213 : BitVec 32 := Scalar.muli v202 c4096_i32_170
  let c2048_i32_171 : BitVec 32 := 2048#32
  let v214 : BitVec 32 := Scalar.addi v213 c2048_i32_171
  let c0_i32_176 : BitVec 32 := 0#32
  ![v214.toNat, 0]
def k0_dev38 (d0 : Dev nD) : Nat :=
  let c0_i32_175 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c1_i32_2 : BitVec 32 := 1#32
  let v6 : BitVec 32 := Scalar.xori v4 c1_i32_2
  let v7 : BitVec 32 := Scalar.addi v5 v6
  let c1_i32_174 : BitVec 32 := 1#32
  let v215 : BitVec 32 := Scalar.muli v7 c1_i32_174
  let v216 : BitVec 32 := Scalar.addi c0_i32_175 v215
  v216.toNat
def k0_off42 (d0 : Dev nD) : Fin 2 → Nat :=
  let c4_i32_79 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v108 : BitVec 32 := Scalar.muli c4_i32_79 v3
  let c3_i32_81 : BitVec 32 := 3#32
  let c4_i32_0 : BitVec 32 := 4#32
  let v4 : BitVec 32 := Scalar.remsi v2 c4_i32_0
  let c1_i32_80 : BitVec 32 := 1#32
  let v109 : BitVec 32 := Scalar.xori v4 c1_i32_80
  let v110 : BitVec 32 := Scalar.subi c3_i32_81 v109
  let v111 : BitVec 32 := Scalar.addi v108 v110
  let c4096_i32_84 : BitVec 32 := 4096#32
  let v114 : BitVec 32 := Scalar.muli v111 c4096_i32_84
  let c2048_i32_85 : BitVec 32 := 2048#32
  let v115 : BitVec 32 := Scalar.addi v114 c2048_i32_85
  let c0_i32_88 : BitVec 32 := 0#32
  ![v115.toNat, 0]
def k0_off43 (d0 : Dev nD) : Fin 2 → Nat :=
  let c4_i32_79 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v108 : BitVec 32 := Scalar.muli c4_i32_79 v3
  let c3_i32_81 : BitVec 32 := 3#32
  let c4_i32_0 : BitVec 32 := 4#32
  let v4 : BitVec 32 := Scalar.remsi v2 c4_i32_0
  let c1_i32_80 : BitVec 32 := 1#32
  let v109 : BitVec 32 := Scalar.xori v4 c1_i32_80
  let v110 : BitVec 32 := Scalar.subi c3_i32_81 v109
  let v111 : BitVec 32 := Scalar.addi v108 v110
  let c4096_i32_91 : BitVec 32 := 4096#32
  let v121 : BitVec 32 := Scalar.muli v111 c4096_i32_91
  let c0_i32_94 : BitVec 32 := 0#32
  ![v121.toNat, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_96 : BitVec 32 := 1#32
  let v126 : BitVec 1 := Scalar.cmpi .sge v3 c1_i32_96
  let v127 : BitVec 32 := Scalar.extui v126
  let c0_i32_97 : BitVec 32 := 0#32
  let v128 : BitVec 1 := Scalar.cmpi .ne v127 c0_i32_97
  v128

def k0_off44 (d0 : Dev nD) : Fin 2 → Nat :=
  let c4_i32_79 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v108 : BitVec 32 := Scalar.muli c4_i32_79 v3
  let c3_i32_81 : BitVec 32 := 3#32
  let c4_i32_0 : BitVec 32 := 4#32
  let v4 : BitVec 32 := Scalar.remsi v2 c4_i32_0
  let c1_i32_80 : BitVec 32 := 1#32
  let v109 : BitVec 32 := Scalar.xori v4 c1_i32_80
  let v110 : BitVec 32 := Scalar.subi c3_i32_81 v109
  let v111 : BitVec 32 := Scalar.addi v108 v110
  let c4_i32_143 : BitVec 32 := 4#32
  let v183 : BitVec 32 := Scalar.subi v111 c4_i32_143
  let c4096_i32_146 : BitVec 32 := 4096#32
  let v186 : BitVec 32 := Scalar.muli v183 c4096_i32_146
  let c2048_i32_147 : BitVec 32 := 2048#32
  let v187 : BitVec 32 := Scalar.addi v186 c2048_i32_147
  let c0_i32_152 : BitVec 32 := 0#32
  ![v187.toNat, 0]
def k0_off45 (d0 : Dev nD) : Fin 2 → Nat :=
  let c4_i32_79 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v108 : BitVec 32 := Scalar.muli c4_i32_79 v3
  let c3_i32_81 : BitVec 32 := 3#32
  let c4_i32_0 : BitVec 32 := 4#32
  let v4 : BitVec 32 := Scalar.remsi v2 c4_i32_0
  let c1_i32_80 : BitVec 32 := 1#32
  let v109 : BitVec 32 := Scalar.xori v4 c1_i32_80
  let v110 : BitVec 32 := Scalar.subi c3_i32_81 v109
  let v111 : BitVec 32 := Scalar.addi v108 v110
  let c4_i32_143 : BitVec 32 := 4#32
  let v183 : BitVec 32 := Scalar.subi v111 c4_i32_143
  let c4096_i32_155 : BitVec 32 := 4096#32
  let v195 : BitVec 32 := Scalar.muli v183 c4096_i32_155
  let c0_i32_160 : BitVec 32 := 0#32
  ![v195.toNat, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_98 : BitVec 32 := 2#32
  let v129 : BitVec 1 := Scalar.cmpi .sle v3 c2_i32_98
  let v130 : BitVec 32 := Scalar.extui v129
  let c0_i32_99 : BitVec 32 := 0#32
  let v131 : BitVec 1 := Scalar.cmpi .ne v130 c0_i32_99
  v131

def k0_off46 (d0 : Dev nD) : Fin 2 → Nat :=
  let c4_i32_79 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v108 : BitVec 32 := Scalar.muli c4_i32_79 v3
  let c3_i32_81 : BitVec 32 := 3#32
  let c4_i32_0 : BitVec 32 := 4#32
  let v4 : BitVec 32 := Scalar.remsi v2 c4_i32_0
  let c1_i32_80 : BitVec 32 := 1#32
  let v109 : BitVec 32 := Scalar.xori v4 c1_i32_80
  let v110 : BitVec 32 := Scalar.subi c3_i32_81 v109
  let v111 : BitVec 32 := Scalar.addi v108 v110
  let c4_i32_143 : BitVec 32 := 4#32
  let v183 : BitVec 32 := Scalar.addi v111 c4_i32_143
  let c4096_i32_146 : BitVec 32 := 4096#32
  let v186 : BitVec 32 := Scalar.muli v183 c4096_i32_146
  let c2048_i32_147 : BitVec 32 := 2048#32
  let v187 : BitVec 32 := Scalar.addi v186 c2048_i32_147
  let c0_i32_152 : BitVec 32 := 0#32
  ![v187.toNat, 0]
def k0_off47 (d0 : Dev nD) : Fin 2 → Nat :=
  let c4_i32_79 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v108 : BitVec 32 := Scalar.muli c4_i32_79 v3
  let c3_i32_81 : BitVec 32 := 3#32
  let c4_i32_0 : BitVec 32 := 4#32
  let v4 : BitVec 32 := Scalar.remsi v2 c4_i32_0
  let c1_i32_80 : BitVec 32 := 1#32
  let v109 : BitVec 32 := Scalar.xori v4 c1_i32_80
  let v110 : BitVec 32 := Scalar.subi c3_i32_81 v109
  let v111 : BitVec 32 := Scalar.addi v108 v110
  let c4_i32_143 : BitVec 32 := 4#32
  let v183 : BitVec 32 := Scalar.addi v111 c4_i32_143
  let c4096_i32_155 : BitVec 32 := 4096#32
  let v195 : BitVec 32 := Scalar.muli v183 c4096_i32_155
  let c0_i32_160 : BitVec 32 := 0#32
  ![v195.toNat, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_100 : BitVec 32 := 2#32
  let v132 : BitVec 1 := Scalar.cmpi .sge v3 c2_i32_100
  let v133 : BitVec 32 := Scalar.extui v132
  let c0_i32_101 : BitVec 32 := 0#32
  let v134 : BitVec 1 := Scalar.cmpi .ne v133 c0_i32_101
  v134

def k0_off48 (d0 : Dev nD) : Fin 2 → Nat :=
  let c4_i32_79 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v108 : BitVec 32 := Scalar.muli c4_i32_79 v3
  let c3_i32_81 : BitVec 32 := 3#32
  let c4_i32_0 : BitVec 32 := 4#32
  let v4 : BitVec 32 := Scalar.remsi v2 c4_i32_0
  let c1_i32_80 : BitVec 32 := 1#32
  let v109 : BitVec 32 := Scalar.xori v4 c1_i32_80
  let v110 : BitVec 32 := Scalar.subi c3_i32_81 v109
  let v111 : BitVec 32 := Scalar.addi v108 v110
  let c8_i32 : BitVec 32 := 8#32
  let v183 : BitVec 32 := Scalar.subi v111 c8_i32
  let c4096_i32_145 : BitVec 32 := 4096#32
  let v186 : BitVec 32 := Scalar.muli v183 c4096_i32_145
  let c2048_i32_146 : BitVec 32 := 2048#32
  let v187 : BitVec 32 := Scalar.addi v186 c2048_i32_146
  let c0_i32_151 : BitVec 32 := 0#32
  ![v187.toNat, 0]
def k0_off49 (d0 : Dev nD) : Fin 2 → Nat :=
  let c4_i32_79 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v108 : BitVec 32 := Scalar.muli c4_i32_79 v3
  let c3_i32_81 : BitVec 32 := 3#32
  let c4_i32_0 : BitVec 32 := 4#32
  let v4 : BitVec 32 := Scalar.remsi v2 c4_i32_0
  let c1_i32_80 : BitVec 32 := 1#32
  let v109 : BitVec 32 := Scalar.xori v4 c1_i32_80
  let v110 : BitVec 32 := Scalar.subi c3_i32_81 v109
  let v111 : BitVec 32 := Scalar.addi v108 v110
  let c8_i32 : BitVec 32 := 8#32
  let v183 : BitVec 32 := Scalar.subi v111 c8_i32
  let c4096_i32_154 : BitVec 32 := 4096#32
  let v195 : BitVec 32 := Scalar.muli v183 c4096_i32_154
  let c0_i32_159 : BitVec 32 := 0#32
  ![v195.toNat, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_102 : BitVec 32 := 1#32
  let v135 : BitVec 1 := Scalar.cmpi .sle v3 c1_i32_102
  let v136 : BitVec 32 := Scalar.extui v135
  let c0_i32_103 : BitVec 32 := 0#32
  let v137 : BitVec 1 := Scalar.cmpi .ne v136 c0_i32_103
  v137

def k0_off50 (d0 : Dev nD) : Fin 2 → Nat :=
  let c4_i32_79 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v108 : BitVec 32 := Scalar.muli c4_i32_79 v3
  let c3_i32_81 : BitVec 32 := 3#32
  let c4_i32_0 : BitVec 32 := 4#32
  let v4 : BitVec 32 := Scalar.remsi v2 c4_i32_0
  let c1_i32_80 : BitVec 32 := 1#32
  let v109 : BitVec 32 := Scalar.xori v4 c1_i32_80
  let v110 : BitVec 32 := Scalar.subi c3_i32_81 v109
  let v111 : BitVec 32 := Scalar.addi v108 v110
  let c8_i32 : BitVec 32 := 8#32
  let v183 : BitVec 32 := Scalar.addi v111 c8_i32
  let c4096_i32_145 : BitVec 32 := 4096#32
  let v186 : BitVec 32 := Scalar.muli v183 c4096_i32_145
  let c2048_i32_146 : BitVec 32 := 2048#32
  let v187 : BitVec 32 := Scalar.addi v186 c2048_i32_146
  let c0_i32_151 : BitVec 32 := 0#32
  ![v187.toNat, 0]
def k0_off51 (d0 : Dev nD) : Fin 2 → Nat :=
  let c4_i32_79 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v108 : BitVec 32 := Scalar.muli c4_i32_79 v3
  let c3_i32_81 : BitVec 32 := 3#32
  let c4_i32_0 : BitVec 32 := 4#32
  let v4 : BitVec 32 := Scalar.remsi v2 c4_i32_0
  let c1_i32_80 : BitVec 32 := 1#32
  let v109 : BitVec 32 := Scalar.xori v4 c1_i32_80
  let v110 : BitVec 32 := Scalar.subi c3_i32_81 v109
  let v111 : BitVec 32 := Scalar.addi v108 v110
  let c8_i32 : BitVec 32 := 8#32
  let v183 : BitVec 32 := Scalar.addi v111 c8_i32
  let c4096_i32_154 : BitVec 32 := 4096#32
  let v195 : BitVec 32 := Scalar.muli v183 c4096_i32_154
  let c0_i32_159 : BitVec 32 := 0#32
  ![v195.toNat, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_104 : BitVec 32 := 3#32
  let v138 : BitVec 1 := Scalar.cmpi .sge v3 c3_i32_104
  let v139 : BitVec 32 := Scalar.extui v138
  let c0_i32_105 : BitVec 32 := 0#32
  let v140 : BitVec 1 := Scalar.cmpi .ne v139 c0_i32_105
  v140

def k0_off52 (d0 : Dev nD) : Fin 2 → Nat :=
  let c4_i32_79 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v108 : BitVec 32 := Scalar.muli c4_i32_79 v3
  let c3_i32_81 : BitVec 32 := 3#32
  let c4_i32_0 : BitVec 32 := 4#32
  let v4 : BitVec 32 := Scalar.remsi v2 c4_i32_0
  let c1_i32_80 : BitVec 32 := 1#32
  let v109 : BitVec 32 := Scalar.xori v4 c1_i32_80
  let v110 : BitVec 32 := Scalar.subi c3_i32_81 v109
  let v111 : BitVec 32 := Scalar.addi v108 v110
  let c12_i32 : BitVec 32 := 12#32
  let v183 : BitVec 32 := Scalar.subi v111 c12_i32
  let c4096_i32_145 : BitVec 32 := 4096#32
  let v186 : BitVec 32 := Scalar.muli v183 c4096_i32_145
  let c2048_i32_146 : BitVec 32 := 2048#32
  let v187 : BitVec 32 := Scalar.addi v186 c2048_i32_146
  let c0_i32_151 : BitVec 32 := 0#32
  ![v187.toNat, 0]
def k0_off53 (d0 : Dev nD) : Fin 2 → Nat :=
  let c4_i32_79 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v108 : BitVec 32 := Scalar.muli c4_i32_79 v3
  let c3_i32_81 : BitVec 32 := 3#32
  let c4_i32_0 : BitVec 32 := 4#32
  let v4 : BitVec 32 := Scalar.remsi v2 c4_i32_0
  let c1_i32_80 : BitVec 32 := 1#32
  let v109 : BitVec 32 := Scalar.xori v4 c1_i32_80
  let v110 : BitVec 32 := Scalar.subi c3_i32_81 v109
  let v111 : BitVec 32 := Scalar.addi v108 v110
  let c12_i32 : BitVec 32 := 12#32
  let v183 : BitVec 32 := Scalar.subi v111 c12_i32
  let c4096_i32_154 : BitVec 32 := 4096#32
  let v195 : BitVec 32 := Scalar.muli v183 c4096_i32_154
  let c0_i32_159 : BitVec 32 := 0#32
  ![v195.toNat, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_106 : BitVec 32 := 0#32
  let v141 : BitVec 1 := Scalar.cmpi .sle v3 c0_i32_106
  let v142 : BitVec 32 := Scalar.extui v141
  let c0_i32_107 : BitVec 32 := 0#32
  let v143 : BitVec 1 := Scalar.cmpi .ne v142 c0_i32_107
  v143

def k0_off54 (d0 : Dev nD) : Fin 2 → Nat :=
  let c4_i32_79 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v108 : BitVec 32 := Scalar.muli c4_i32_79 v3
  let c3_i32_81 : BitVec 32 := 3#32
  let c4_i32_0 : BitVec 32 := 4#32
  let v4 : BitVec 32 := Scalar.remsi v2 c4_i32_0
  let c1_i32_80 : BitVec 32 := 1#32
  let v109 : BitVec 32 := Scalar.xori v4 c1_i32_80
  let v110 : BitVec 32 := Scalar.subi c3_i32_81 v109
  let v111 : BitVec 32 := Scalar.addi v108 v110
  let c12_i32 : BitVec 32 := 12#32
  let v183 : BitVec 32 := Scalar.addi v111 c12_i32
  let c4096_i32_145 : BitVec 32 := 4096#32
  let v186 : BitVec 32 := Scalar.muli v183 c4096_i32_145
  let c2048_i32_146 : BitVec 32 := 2048#32
  let v187 : BitVec 32 := Scalar.addi v186 c2048_i32_146
  let c0_i32_151 : BitVec 32 := 0#32
  ![v187.toNat, 0]
def k0_off55 (d0 : Dev nD) : Fin 2 → Nat :=
  let c4_i32_79 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v108 : BitVec 32 := Scalar.muli c4_i32_79 v3
  let c3_i32_81 : BitVec 32 := 3#32
  let c4_i32_0 : BitVec 32 := 4#32
  let v4 : BitVec 32 := Scalar.remsi v2 c4_i32_0
  let c1_i32_80 : BitVec 32 := 1#32
  let v109 : BitVec 32 := Scalar.xori v4 c1_i32_80
  let v110 : BitVec 32 := Scalar.subi c3_i32_81 v109
  let v111 : BitVec 32 := Scalar.addi v108 v110
  let c12_i32 : BitVec 32 := 12#32
  let v183 : BitVec 32 := Scalar.addi v111 c12_i32
  let c4096_i32_154 : BitVec 32 := 4096#32
  let v195 : BitVec 32 := Scalar.muli v183 c4096_i32_154
  let c0_i32_159 : BitVec 32 := 0#32
  ![v195.toNat, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_108 : BitVec 32 := 3#32
  let v144 : BitVec 1 := Scalar.cmpi .slt v3 c3_i32_108
  let v145 : BitVec 32 := Scalar.extui v144
  let c0_i32_109 : BitVec 32 := 0#32
  let v146 : BitVec 1 := Scalar.cmpi .ne v145 c0_i32_109
  v146

def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4096_i32_143 : BitVec 32 := 4096#32
  let v183 : BitVec 32 := Scalar.muli v2 c4096_i32_143
  let c0_i32_147 : BitVec 32 := 0#32
  ![v183.toNat, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_110 : BitVec 32 := 0#32
  let v147 : BitVec 1 := Scalar.cmpi .sgt v3 c0_i32_110
  let v148 : BitVec 32 := Scalar.extui v147
  let c0_i32_111 : BitVec 32 := 0#32
  let v149 : BitVec 1 := Scalar.cmpi .ne v148 c0_i32_111
  v149

def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4096_i32_143 : BitVec 32 := 4096#32
  let v183 : BitVec 32 := Scalar.muli v2 c4096_i32_143
  let c0_i32_147 : BitVec 32 := 0#32
  ![v183.toNat, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_130 : BitVec 32 := 1#32
  let v164 : BitVec 1 := Scalar.cmpi .sge v3 c1_i32_130
  let v165 : BitVec 32 := Scalar.extui v164
  let c0_i32_131 : BitVec 32 := 0#32
  let v166 : BitVec 1 := Scalar.cmpi .ne v165 c0_i32_131
  v166

def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_144 : BitVec 32 := 3#32
  let v184 : BitVec 1 := Scalar.cmpi .slt v3 c3_i32_144
  let v185 : BitVec 32 := Scalar.extui v184
  let c0_i32_145 : BitVec 32 := 0#32
  let v186 : BitVec 1 := Scalar.cmpi .ne v185 c0_i32_145
  v186

def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_143 : BitVec 32 := 4#32
  let v183 : BitVec 32 := Scalar.subi v2 c4_i32_143
  let c4096_i32_176 : BitVec 32 := 4096#32
  let v213 : BitVec 32 := Scalar.muli v183 c4096_i32_176
  let c0_i32_181 : BitVec 32 := 0#32
  ![v213.toNat, 0]
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_143 : BitVec 32 := 4#32
  let v183 : BitVec 32 := Scalar.subi v2 c4_i32_143
  let c4096_i32_146 : BitVec 32 := 4096#32
  let v187 : BitVec 32 := Scalar.muli v183 c4096_i32_146
  let c0_i32_151 : BitVec 32 := 0#32
  ![v187.toNat, 0]
def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_143 : BitVec 32 := 4#32
  let v183 : BitVec 32 := Scalar.subi v2 c4_i32_143
  let c4096_i32_160 : BitVec 32 := 4096#32
  let v199 : BitVec 32 := Scalar.muli v183 c4096_i32_160
  let c0_i32_165 : BitVec 32 := 0#32
  ![v199.toNat, 0]
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_143 : BitVec 32 := 4#32
  let v183 : BitVec 32 := Scalar.subi v2 c4_i32_143
  let c4096_i32_167 : BitVec 32 := 4096#32
  let v205 : BitVec 32 := Scalar.muli v183 c4096_i32_167
  let c2048_i32_168 : BitVec 32 := 2048#32
  let v206 : BitVec 32 := Scalar.addi v205 c2048_i32_168
  let c0_i32_174 : BitVec 32 := 0#32
  ![v206.toNat, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_132 : BitVec 32 := 2#32
  let v167 : BitVec 1 := Scalar.cmpi .sle v3 c2_i32_132
  let v168 : BitVec 32 := Scalar.extui v167
  let c0_i32_133 : BitVec 32 := 0#32
  let v169 : BitVec 1 := Scalar.cmpi .ne v168 c0_i32_133
  v169

def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_144 : BitVec 32 := 0#32
  let v184 : BitVec 1 := Scalar.cmpi .sgt v3 c0_i32_144
  let v185 : BitVec 32 := Scalar.extui v184
  let c0_i32_145 : BitVec 32 := 0#32
  let v186 : BitVec 1 := Scalar.cmpi .ne v185 c0_i32_145
  v186

def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_143 : BitVec 32 := 4#32
  let v183 : BitVec 32 := Scalar.addi v2 c4_i32_143
  let c4096_i32_176 : BitVec 32 := 4096#32
  let v213 : BitVec 32 := Scalar.muli v183 c4096_i32_176
  let c0_i32_181 : BitVec 32 := 0#32
  ![v213.toNat, 0]
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_143 : BitVec 32 := 4#32
  let v183 : BitVec 32 := Scalar.addi v2 c4_i32_143
  let c4096_i32_146 : BitVec 32 := 4096#32
  let v187 : BitVec 32 := Scalar.muli v183 c4096_i32_146
  let c0_i32_151 : BitVec 32 := 0#32
  ![v187.toNat, 0]
def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_143 : BitVec 32 := 4#32
  let v183 : BitVec 32 := Scalar.addi v2 c4_i32_143
  let c4096_i32_160 : BitVec 32 := 4096#32
  let v199 : BitVec 32 := Scalar.muli v183 c4096_i32_160
  let c0_i32_165 : BitVec 32 := 0#32
  ![v199.toNat, 0]
def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_143 : BitVec 32 := 4#32
  let v183 : BitVec 32 := Scalar.addi v2 c4_i32_143
  let c4096_i32_167 : BitVec 32 := 4096#32
  let v205 : BitVec 32 := Scalar.muli v183 c4096_i32_167
  let c2048_i32_168 : BitVec 32 := 2048#32
  let v206 : BitVec 32 := Scalar.addi v205 c2048_i32_168
  let c0_i32_174 : BitVec 32 := 0#32
  ![v206.toNat, 0]
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_134 : BitVec 32 := 2#32
  let v170 : BitVec 1 := Scalar.cmpi .sge v3 c2_i32_134
  let v171 : BitVec 32 := Scalar.extui v170
  let c0_i32_135 : BitVec 32 := 0#32
  let v172 : BitVec 1 := Scalar.cmpi .ne v171 c0_i32_135
  v172

def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_143 : BitVec 32 := 3#32
  let v184 : BitVec 1 := Scalar.cmpi .slt v3 c3_i32_143
  let v185 : BitVec 32 := Scalar.extui v184
  let c0_i32_144 : BitVec 32 := 0#32
  let v186 : BitVec 1 := Scalar.cmpi .ne v185 c0_i32_144
  v186

def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v183 : BitVec 32 := Scalar.subi v2 c8_i32
  let c4096_i32_175 : BitVec 32 := 4096#32
  let v213 : BitVec 32 := Scalar.muli v183 c4096_i32_175
  let c0_i32_180 : BitVec 32 := 0#32
  ![v213.toNat, 0]
def k0_off67 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v183 : BitVec 32 := Scalar.subi v2 c8_i32
  let c4096_i32_145 : BitVec 32 := 4096#32
  let v187 : BitVec 32 := Scalar.muli v183 c4096_i32_145
  let c0_i32_150 : BitVec 32 := 0#32
  ![v187.toNat, 0]
def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v183 : BitVec 32 := Scalar.subi v2 c8_i32
  let c4096_i32_159 : BitVec 32 := 4096#32
  let v199 : BitVec 32 := Scalar.muli v183 c4096_i32_159
  let c0_i32_164 : BitVec 32 := 0#32
  ![v199.toNat, 0]
def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v183 : BitVec 32 := Scalar.subi v2 c8_i32
  let c4096_i32_166 : BitVec 32 := 4096#32
  let v205 : BitVec 32 := Scalar.muli v183 c4096_i32_166
  let c2048_i32_167 : BitVec 32 := 2048#32
  let v206 : BitVec 32 := Scalar.addi v205 c2048_i32_167
  let c0_i32_173 : BitVec 32 := 0#32
  ![v206.toNat, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_136 : BitVec 32 := 1#32
  let v173 : BitVec 1 := Scalar.cmpi .sle v3 c1_i32_136
  let v174 : BitVec 32 := Scalar.extui v173
  let c0_i32_137 : BitVec 32 := 0#32
  let v175 : BitVec 1 := Scalar.cmpi .ne v174 c0_i32_137
  v175

def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_143 : BitVec 32 := 0#32
  let v184 : BitVec 1 := Scalar.cmpi .sgt v3 c0_i32_143
  let v185 : BitVec 32 := Scalar.extui v184
  let c0_i32_144 : BitVec 32 := 0#32
  let v186 : BitVec 1 := Scalar.cmpi .ne v185 c0_i32_144
  v186

def k0_off70 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v183 : BitVec 32 := Scalar.addi v2 c8_i32
  let c4096_i32_175 : BitVec 32 := 4096#32
  let v213 : BitVec 32 := Scalar.muli v183 c4096_i32_175
  let c0_i32_180 : BitVec 32 := 0#32
  ![v213.toNat, 0]
def k0_off71 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v183 : BitVec 32 := Scalar.addi v2 c8_i32
  let c4096_i32_145 : BitVec 32 := 4096#32
  let v187 : BitVec 32 := Scalar.muli v183 c4096_i32_145
  let c0_i32_150 : BitVec 32 := 0#32
  ![v187.toNat, 0]
def k0_off72 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v183 : BitVec 32 := Scalar.addi v2 c8_i32
  let c4096_i32_159 : BitVec 32 := 4096#32
  let v199 : BitVec 32 := Scalar.muli v183 c4096_i32_159
  let c0_i32_164 : BitVec 32 := 0#32
  ![v199.toNat, 0]
def k0_off73 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v183 : BitVec 32 := Scalar.addi v2 c8_i32
  let c4096_i32_166 : BitVec 32 := 4096#32
  let v205 : BitVec 32 := Scalar.muli v183 c4096_i32_166
  let c2048_i32_167 : BitVec 32 := 2048#32
  let v206 : BitVec 32 := Scalar.addi v205 c2048_i32_167
  let c0_i32_173 : BitVec 32 := 0#32
  ![v206.toNat, 0]
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_138 : BitVec 32 := 3#32
  let v176 : BitVec 1 := Scalar.cmpi .sge v3 c3_i32_138
  let v177 : BitVec 32 := Scalar.extui v176
  let c0_i32_139 : BitVec 32 := 0#32
  let v178 : BitVec 1 := Scalar.cmpi .ne v177 c0_i32_139
  v178

def k0_off74 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v183 : BitVec 32 := Scalar.subi v2 c12_i32
  let c4096_i32_143 : BitVec 32 := 4096#32
  let v184 : BitVec 32 := Scalar.muli v183 c4096_i32_143
  let c0_i32_148 : BitVec 32 := 0#32
  ![v184.toNat, 0]
def k0_off75 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v183 : BitVec 32 := Scalar.subi v2 c12_i32
  let c4096_i32_157 : BitVec 32 := 4096#32
  let v196 : BitVec 32 := Scalar.muli v183 c4096_i32_157
  let c0_i32_162 : BitVec 32 := 0#32
  ![v196.toNat, 0]
def k0_off76 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v183 : BitVec 32 := Scalar.subi v2 c12_i32
  let c4096_i32_164 : BitVec 32 := 4096#32
  let v202 : BitVec 32 := Scalar.muli v183 c4096_i32_164
  let c2048_i32_165 : BitVec 32 := 2048#32
  let v203 : BitVec 32 := Scalar.addi v202 c2048_i32_165
  let c0_i32_171 : BitVec 32 := 0#32
  ![v203.toNat, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_140 : BitVec 32 := 0#32
  let v179 : BitVec 1 := Scalar.cmpi .sle v3 c0_i32_140
  let v180 : BitVec 32 := Scalar.extui v179
  let c0_i32_141 : BitVec 32 := 0#32
  let v181 : BitVec 1 := Scalar.cmpi .ne v180 c0_i32_141
  v181

def k0_off77 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v183 : BitVec 32 := Scalar.addi v2 c12_i32
  let c4096_i32_143 : BitVec 32 := 4096#32
  let v184 : BitVec 32 := Scalar.muli v183 c4096_i32_143
  let c0_i32_148 : BitVec 32 := 0#32
  ![v184.toNat, 0]
def k0_off78 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v183 : BitVec 32 := Scalar.addi v2 c12_i32
  let c4096_i32_157 : BitVec 32 := 4096#32
  let v196 : BitVec 32 := Scalar.muli v183 c4096_i32_157
  let c0_i32_162 : BitVec 32 := 0#32
  ![v196.toNat, 0]
def k0_off79 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v183 : BitVec 32 := Scalar.addi v2 c12_i32
  let c4096_i32_164 : BitVec 32 := 4096#32
  let v202 : BitVec 32 := Scalar.muli v183 c4096_i32_164
  let c2048_i32_165 : BitVec 32 := 2048#32
  let v203 : BitVec 32 := Scalar.addi v202 c2048_i32_165
  let c0_i32_171 : BitVec 32 := 0#32
  ![v203.toNat, 0]
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S65536x1024 : Shape := ⟨2, ![65536, 1024]⟩

abbrev nBuf : Space → Nat
  | .hbm => 1
  | .vmem => 0
  | .smem => 0
  | _ => 0

abbrev bufTy : (tb : Table) → Fin (tcTables nBuf tb) → BufTy
  | .hbm, ⟨0, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Plan.lean ====
/-
# The plan of the all-gather: who copies which rows to whom, and in which order

Sixteen devices stand in four planes of four. Device `c` is in plane `c / 4`; in its plane it has an x-neighbour and
a y-neighbour, and it has a neighbour in the plane above and in the plane below where there is one. The kernel
spreads the devices' blocks of rows by copies between neighbours. This file names the copies, and states everything
about them that is arithmetic over the sixteen devices: which device makes which copy, to whom, of which rows, out of
which rows received before, and at which place of the program. No program and no memory occurs here.
-/
module

public import proofs.«01_k».proof.Proof.Gen.KernelIdeal.Skeleton

@[expose] public section

namespace Cert.AllGather

open Idealize.ShloMosaic

/-- The copies a device may make to a neighbour, in the order of the kernel's semaphore arrays: along the column to
    the plane above (`up`) and below (`dn`); of its own block to the x- and y-neighbour (`fxo`, `fyo`); of a block
    that came up or down the column to them (`fxu`, `fxd`, `fyu`, `fyd`); of the upper half of what the x-neighbour
    sent to the y-neighbour (`gyo`, `gyu`, `gyd`), and of the lower half of what the y-neighbour sent to the
    x-neighbour (`hxo`, `hxu`, `hxd`). -/
inductive Xfer where
  | up (k : Fin 3) | dn (k : Fin 3)
  | fxo | fyo
  | fxu (k : Fin 3) | fxd (k : Fin 3) | fyu (k : Fin 3) | fyd (k : Fin 3)
  | gyo | hxo
  | gyu (k : Fin 3) | gyd (k : Fin 3) | hxu (k : Fin 3) | hxd (k : Fin 3)
  deriving DecidableEq

/-- All the copies. -/
def Xfer.all : List Xfer :=
  let three (f : Fin 3 → Xfer) : List Xfer := [f 0, f 1, f 2]
  three .up ++ three .dn ++ [.fxo, .fyo] ++ three .fxu ++ three .fxd ++ three .fyu ++ three .fyd ++ [.gyo, .hxo]
    ++ three .gyu ++ three .gyd ++ three .hxu ++ three .hxd

instance : Fintype Xfer where
  elems := ⟨Xfer.all, by decide +kernel⟩
  complete t := by
    show t ∈ Xfer.all
    cases t with
    | fxo | fyo | gyo | hxo => decide +kernel
    | up k | dn k | fxu k | fxd k | fyu k | fyd k | gyu k | gyd k | hxu k | hxd k => revert k; decide +kernel

/-- One step of the program after the entry handshake: a copy issued, the wait for a copy's arrival, the wait for a
    copy of one's own to have left. -/
inductive Step where
  | send (t : Xfer) | recv (t : Xfer) | done (t : Xfer)
  deriving DecidableEq

/-! ## Neighbours -/

/-- The neighbour of a device on side `j`: 0 the x-neighbour, 1 the y-neighbour, 2 the device above, 3 the one below
    (the last two around the four planes; `link` says where they are neighbours indeed). -/
def nbr (c : Dev 16) : Fin 4 → Dev 16
  | 0 => ⟨(4 * (c.val / 4) + (if c.val % 2 = 0 then c.val % 4 + 1 else c.val % 4 - 1)) % 16, Nat.mod_lt _ (by decide)⟩
  | 1 => ⟨(4 * (c.val / 4) + (3 - c.val % 4)) % 16, Nat.mod_lt _ (by decide)⟩
  | 2 => ⟨(c.val + 4) % 16, Nat.mod_lt _ (by decide)⟩
  | 3 => ⟨(c.val + 12) % 16, Nat.mod_lt _ (by decide)⟩

/-- Whether the device has a neighbour on side `j`. -/
def link (c : Dev 16) : Fin 4 → Bool
  | 0 => true
  | 1 => true
  | 2 => decide (c.val / 4 < 3)
  | 3 => decide (0 < c.val / 4)

/-- The side on which a neighbour sees the device. -/
def opp : Fin 4 → Fin 4
  | 0 => 0 | 1 => 1 | 2 => 3 | 3 => 2

theorem opp_opp : ∀ j, opp (opp j) = j := by decide
theorem nbr_opp : ∀ c j, nbr (nbr c j) (opp j) = c := by decide +kernel
theorem opp_nbr : ∀ c j, nbr (nbr c (opp j)) j = c := by decide +kernel
theorem link_opp : ∀ c j, link (nbr c j) (opp j) = link c j := by decide +kernel

/-- The number of a device's neighbours. -/
def deg (c : Dev 16) : ℕ := (Finset.univ.filter fun j => link c j = true).card

/-! ## The copies -/

/-- The side a copy goes to. -/
def chan : Xfer → Fin 4
  | .up _ => 2 | .dn _ => 3
  | .fxo | .fxu _ | .fxd _ => 0
  | .fyo | .fyu _ | .fyd _ => 1
  | .gyo | .gyu _ | .gyd _ => 1
  | .hxo | .hxu _ | .hxd _ => 0

/-- Whether the device makes the copy. -/
def active (c : Dev 16) : Xfer → Bool
  | .up k => decide (c.val / 4 < 3 ∧ k.val ≤ c.val / 4)
  | .dn k => decide (0 < c.val / 4 ∧ c.val / 4 + k.val ≤ 3)
  | .fxo | .fyo | .gyo | .hxo => true
  | .fxu k | .fyu k | .gyu k | .hxu k => decide (k.val + 1 ≤ c.val / 4)
  | .fxd k | .fyd k | .gyd k | .hxd k => decide (c.val / 4 + k.val ≤ 2)

/-- The device a copy goes to, and the device it comes from. -/
def tgt (c : Dev 16) (t : Xfer) : Dev 16 := nbr c (chan t)
def src (c : Dev 16) (t : Xfer) : Dev 16 := nbr c (opp (chan t))

theorem src_tgt (c : Dev 16) (t : Xfer) : src (tgt c t) t = c := nbr_opp c (chan t)
theorem tgt_src (c : Dev 16) (t : Xfer) : tgt (src c t) t = c := opp_nbr c (chan t)

/-- Whether the copy is made to the device. -/
def incoming (c : Dev 16) (t : Xfer) : Bool := active (src c t) t

theorem incoming_tgt (c : Dev 16) (t : Xfer) : incoming (tgt c t) t = active c t := by
  unfold incoming; rw [src_tgt]

/-- A copy goes to a neighbour. -/
theorem link_of_active : ∀ c t, active c t = true → link c (chan t) = true := by decide +kernel

/-- The device `n` planes below, and above. -/
def below (c : Dev 16) (n : ℕ) : Dev 16 := ⟨(c.val + (16 - 4 * n)) % 16, Nat.mod_lt _ (by decide)⟩
def above (c : Dev 16) (n : ℕ) : Dev 16 := ⟨(c.val + 4 * n) % 16, Nat.mod_lt _ (by decide)⟩

/-- The device whose block of rows a copy carries. -/
def origin (c : Dev 16) : Xfer → Dev 16
  | .up k => below c k.val
  | .dn k => above c k.val
  | .fxo | .fyo => c
  | .fxu k | .fyu k => below c (k.val + 1)
  | .fxd k | .fyd k => above c (k.val + 1)
  | .gyo => nbr c 0
  | .gyu k => below (nbr c 0) (k.val + 1)
  | .gyd k => above (nbr c 0) (k.val + 1)
  | .hxo => nbr c 1
  | .hxu k => below (nbr c 1) (k.val + 1)
  | .hxd k => above (nbr c 1) (k.val + 1)

/-- Which rows of a block: all, the upper half, the lower half. -/
inductive Part where
  | full | top | bot
  deriving DecidableEq

/-- The rows of the block a copy carries. -/
def part : Xfer → Part
  | .gyo | .gyu _ | .gyd _ => .top
  | .hxo | .hxu _ | .hxd _ => .bot
  | _ => .full

/-- The copy whose arrival brings the rows a copy carries; `none` where they are of the device's own input. -/
def parent : Xfer → Option Xfer
  | .up 0 => none | .up 1 => some (.up 0) | .up 2 => some (.up 1)
  | .dn 0 => none | .dn 1 => some (.dn 0) | .dn 2 => some (.dn 1)
  | .fxo | .fyo => none
  | .fxu k | .fyu k => some (.up k)
  | .fxd k | .fyd k => some (.dn k)
  | .gyo => some .fxo | .gyu k => some (.fxu k) | .gyd k => some (.fxd k)
  | .hxo => some .fyo | .hxu k => some (.fyu k) | .hxd k => some (.fyd k)

/-- A copy made carries rows that a copy to the device brought. -/
theorem incoming_parent : ∀ c t p, active c t = true → parent t = some p → incoming c p = true := by decide +kernel
/-- They are rows of one block, -/
theorem origin_parent : ∀ c t p, parent t = some p → origin (src c p) p = origin c t := by decide +kernel
/-- a whole one. -/
theorem part_parent : ∀ t p, parent t = some p → part p = .full := by decide +kernel
/-- Where they are of the device's own input they are its own block, whole. -/
theorem origin_root : ∀ c t, parent t = none → origin c t = c := by decide +kernel
theorem part_root : ∀ t, parent t = none → part t = .full := by decide +kernel

/-! ## The rows, by halves of blocks -/

/-- Whether the half-block `h` (of 32) is in the part `p` of block `o`. -/
def holds (o : Dev 16) (p : Part) (h : Fin 32) : Bool :=
  decide (h.val / 2 = o.val) && (match p with | .full => true | .top => decide (h.val % 2 = 0) | .bot => decide (h.val % 2 = 1))

/-- Every half-block of a device's result is its own or comes by some copy to the device, -/
theorem cover : ∀ c h, holds c .full h = true ∨ ∃ t, incoming c t = true ∧ holds (origin (src c t) t) (part t) h = true := by
  decide +kernel
/-- The copy that brings a half-block to a device. -/
def bringer (c : Dev 16) (h : Fin 32) : Option Xfer :=
  Xfer.all.find? fun t => incoming c t && holds (origin (src c t) t) (part t) h

/-- by one copy only, -/
theorem bringer_eq : ∀ c t, incoming c t = true → ∀ h, holds (origin (src c t) t) (part t) h = true → bringer c h = some t := by
  decide +kernel
theorem cover_unique {c : Dev 16} {h : Fin 32} {t t' : Xfer} (ht : incoming c t = true) (ht' : incoming c t' = true)
    (hh : holds (origin (src c t) t) (part t) h = true) (hh' : holds (origin (src c t') t') (part t') h = true) : t = t' :=
  Option.some.inj ((bringer_eq c t ht h hh).symm.trans (bringer_eq c t' ht' h hh'))
/-- and not its own and by a copy. -/
theorem cover_own : ∀ c t, incoming c t = true → ∀ h, holds (origin (src c t) t) (part t) h = true → holds c .full h = false := by
  decide +kernel

/-! ## The order of the program -/

/-- The program after the entry handshake, as if every device made every copy. -/
def steps : List Step :=
  [.send (.up 0), .send (.dn 0), .send .fxo, .send .fyo,
   .recv (.up 0), .send (.up 1), .send (.fxu 0), .send (.fyu 0),
   .recv (.dn 0), .send (.dn 1), .send (.fxd 0), .send (.fyd 0),
   .recv (.up 1), .send (.up 2), .send (.fxu 1), .send (.fyu 1),
   .recv (.dn 1), .send (.dn 2), .send (.fxd 1), .send (.fyd 1),
   .recv (.up 2), .send (.fxu 2), .send (.fyu 2),
   .recv (.dn 2), .send (.fxd 2), .send (.fyd 2),
   .recv .fxo, .send .gyo, .recv .fyo, .send .hxo,
   .recv (.fxu 0), .send (.gyu 0), .recv (.fyu 0), .send (.hxu 0),
   .recv (.fxd 0), .send (.gyd 0), .recv (.fyd 0), .send (.hxd 0),
   .recv (.fxu 1), .send (.gyu 1), .recv (.fyu 1), .send (.hxu 1),
   .recv (.fxd 1), .send (.gyd 1), .recv (.fyd 1), .send (.hxd 1),
   .recv (.fxu 2), .send (.gyu 2), .recv (.fyu 2), .send (.hxu 2),
   .recv (.fxd 2), .send (.gyd 2), .recv (.fyd 2), .send (.hxd 2),
   .recv .hxo, .recv .gyo,
   .recv (.hxu 0), .recv (.gyu 0), .recv (.hxd 0), .recv (.gyd 0),
   .recv (.hxu 1), .recv (.gyu 1), .recv (.hxd 1), .recv (.gyd 1),
   .recv (.hxu 2), .recv (.gyu 2), .recv (.hxd 2), .recv (.gyd 2),
   .done (.up 0), .done (.dn 0), .done .fxo, .done .fyo, .done .gyo, .done .hxo,
   .done (.up 1), .done (.fxu 0), .done (.fyu 0), .done (.gyu 0), .done (.hxu 0),
   .done (.dn 1), .done (.fxd 0), .done (.fyd 0), .done (.gyd 0), .done (.hxd 0),
   .done (.up 2), .done (.fxu 1), .done (.fyu 1), .done (.gyu 1), .done (.hxu 1),
   .done (.dn 2), .done (.fxd 1), .done (.fyd 1), .done (.gyd 1), .done (.hxd 1),
   .done (.fxu 2), .done (.fyu 2), .done (.gyu 2), .done (.hxu 2),
   .done (.fxd 2), .done (.fyd 2), .done (.gyd 2), .done (.hxd 2)]

theorem mem_steps (s : Step) : s ∈ steps := by
  cases s with
  | send t => revert t; decide +kernel
  | recv t => revert t; decide +kernel
  | done t => revert t; decide +kernel

/-- The place of a step in the program. -/
def pos (s : Step) : ℕ := steps.idxOf s

theorem pos_inj {s s' : Step} (h : pos s = pos s') : s = s' := (List.idxOf_inj (mem_steps s)).mp h
theorem pos_ne {s s' : Step} (h : s ≠ s') : pos s ≠ pos s' := fun h' => h (pos_inj h')
theorem pos_lt (s : Step) : pos s < 102 := List.idxOf_lt_length_iff.mpr (mem_steps s)

/-- A copy is issued before it is waited for, -/
theorem send_lt_done : ∀ t, pos (.send t) < pos (.done t) := by decide +kernel
/-- and after the arrival of what it carries. -/
theorem recv_lt_send : ∀ t p, parent t = some p → pos (.recv p) < pos (.send t) := by decide +kernel

/-- The level of a copy's arrival: a device that waits for an arrival has issued every copy but those of higher
    level. -/
def lvl : Xfer → ℕ
  | .up k | .dn k => 2 + k.val
  | .fxo | .fyo | .fxu _ | .fxd _ | .fyu _ | .fyd _ => 5
  | _ => 6

theorem lvl_lt : ∀ p t, lvl t ≤ lvl p → pos (.send t) < pos (.recv p) := by decide +kernel
theorem lvl_pos : ∀ t, 1 < lvl t := by decide +kernel

end Cert.AllGather
-- ==== Proof.Rows.lean ====
/-
# The rows a copy moves, and what they hold

The result of a device is the sixteen blocks of rows, one under the other. `reg o p` are the rows of part `p` of
block `o`, `gath x` the result, where `x d` is device `d`'s block. Here: the kernel's views of the result are these
rows; a copy of rows holding the result's contents leaves them holding these; and the rows of a device's result are
its own block's and, for every copy made to it, that copy's.
-/
module

public import proofs.«01_k».proof.Proof.Plan
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pipeline.ValueKit.Geometry

@[expose] public section

noncomputable section

namespace Cert.AllGather

open Cert.KernelIdeal Cert.KernelIdeal.Gen
open Idealize.ShloMosaic
open Idealize.ShloMosaic.TcCoe

variable {F : FTy → Type}

/-- The device's own block in its staging buffer, and the result. -/
abbrev xM : Memref sig .tc .vmem S4096x1024 .bf16 := Memref.whole cc0_stg0_0
abbrev outM : Memref sig .tc .hbm S65536x1024 .bf16 := Memref.whole main_v1

/-- A block's contents, and the result's. -/
abbrev Blk (F : FTy → Type) : Type := S4096x1024.Idx → Elt F .bf16
abbrev Res (F : FTy → Type) : Type := S65536x1024.Idx → Elt F .bf16

/-- The first row of a part of a block, and how many rows it has. -/
def lo (o : Dev nD) : Part → ℕ
  | .bot => 4096 * o.val + 2048
  | _ => 4096 * o.val
def len : Part → ℕ
  | .full => 4096
  | _ => 2048

/-- The elements of the result in part `p` of block `o`. -/
def reg (o : Dev nD) (p : Part) : Finset S65536x1024.Idx :=
  Finset.univ.filter fun i => lo o p ≤ (i 0).val ∧ (i 0).val < lo o p + len p

theorem mem_reg {o : Dev nD} {p : Part} {i : S65536x1024.Idx} :
    i ∈ reg o p ↔ lo o p ≤ (i 0).val ∧ (i 0).val < lo o p + len p := by
  unfold reg; rw [Finset.mem_filter]; exact and_iff_right (Finset.mem_univ i)

theorem row_lt (i : S65536x1024.Idx) : (i 0).val < 65536 := (i 0).isLt
theorem col_lt (i : S65536x1024.Idx) : (i 1).val < 1024 := (i 1).isLt

/-- The half-block an element is in. -/
def half (i : S65536x1024.Idx) : Fin 32 := ⟨(i 0).val / 2048, by have := row_lt i; omega⟩

theorem mem_reg_iff_holds {o : Dev nD} {p : Part} {i : S65536x1024.Idx} : i ∈ reg o p ↔ holds o p (half i) = true := by
  rw [mem_reg]
  unfold holds half
  cases p <;> simp only [lo, len, Bool.and_true, Bool.and_eq_true, decide_eq_true_eq] <;> omega

/-! ## The views -/

theorem set_unit (sz : Fin 2 → ℕ) (off : Fin 2 → ℕ) (inb : ∀ a, off a + sz a ≤ S65536x1024.size a) (o : Dev nD) (p : Part)
    (hz : sz = ![len p, 1024]) (h : off = ![lo o p, 0]) :
    (Rect.unit (s := S65536x1024) off sz inb).set = reg o p := by
  subst hz; subst h
  ext i
  rw [Rect.mem_set_unit, mem_reg]
  constructor
  · intro hi; exact hi 0
  · intro hi a
    have hc := col_lt i
    fin_cases a
    · exact hi
    · exact ⟨Nat.zero_le _, by show (i 1).val < 0 + 1024; omega⟩

theorem set_full (off : Fin 2 → ℕ) (inb : ∀ a, off a + S4096x1024.size a ≤ S65536x1024.size a) (o : Dev nD)
    (h : off = ![lo o .full, 0]) :
    (outM.slice (Rect.unit (s := S65536x1024) off S4096x1024.size inb) (fun _ => rfl)).view.set = reg o .full :=
  (View.set_slice_whole main_v1 _).trans (set_unit _ off inb o .full rfl h)

theorem set_half (off : Fin 2 → ℕ) (inb : ∀ a, off a + S2048x1024.size a ≤ S65536x1024.size a) (o : Dev nD) (p : Part)
    (hp : p ≠ .full) (h : off = ![lo o p, 0]) :
    (outM.slice (Rect.unit (s := S65536x1024) off S2048x1024.size inb) (fun _ => rfl)).view.set = reg o p :=
  (View.set_slice_whole main_v1 _).trans (set_unit _ off inb o p (by cases p <;> first | exact absurd rfl hp | rfl) h)

/-! ## The contents -/

/-- Where an element of the result is in its block. -/
def inBlk (i : S65536x1024.Idx) : S4096x1024.Idx := fun a =>
  ⟨if a = 0 then (i 0).val % 4096 else (i 1).val, by
    have hc := col_lt i
    fin_cases a
    · exact Nat.mod_lt _ (by decide)
    · exact hc⟩

theorem inBlk_row (i : S65536x1024.Idx) : (inBlk i 0).val = (i 0).val % 4096 := rfl
theorem inBlk_col (i : S65536x1024.Idx) : (inBlk i 1).val = (i 1).val := rfl

/-- The gathered array of the devices' blocks `x`. -/
def gath (x : Dev nD → Blk F) : Res F := fun i => x ⟨(i 0).val / 4096, by have := row_lt i; show _ < 16; omega⟩ (inBlk i)

/-- Rows holding the gathered array, written where they were read from, hold it. -/
theorem write_read {s : Shape} (v : View sig .tc .hbm s .bf16) (f g : v.ty.Contents (Elt F)) :
    ∀ i ∈ v.set, v.write (Elt F) f (v.read (Elt F) g) Finset.univ i = g i := by
  intro i hi
  obtain ⟨x, -, rfl⟩ := Finset.mem_map.mp hi
  rw [View.write_emb_of_mem _ _ (Finset.mem_univ x), View.read_apply]
  exact eq_of_heq ((cast_heq _ _).trans (cast_heq _ _))

/-- A device's own block, written to its rows of a result, holds the gathered array there. -/
theorem write_own (x : Dev nD → Blk F) (o : Dev nD) (off : Fin 2 → ℕ) (inb : ∀ a, off a + S4096x1024.size a ≤ S65536x1024.size a)
    (h : off = ![lo o .full, 0]) (f : Res F) :
    ∀ i ∈ reg o .full, (outM.slice (Rect.unit (s := S65536x1024) off S4096x1024.size inb) (fun _ => rfl)).view.write (Elt F) f
      (xM.view.read (Elt F) (x o)) Finset.univ i = gath x i := by
  intro i hi
  rw [← set_full off inb o h] at hi
  obtain ⟨j, -, rfl⟩ := Finset.mem_map.mp hi
  rw [View.write_emb_of_mem _ _ (Finset.mem_univ j)]
  subst h
  have h0 : (((outM.slice (Rect.unit (s := S65536x1024) ![lo o .full, 0] S4096x1024.size inb) (fun _ => rfl)).view.emb j) 0).val = 4096 * o.val + (j 0).val :=
    ValueKit.view_emb_slice_whole_unit_val main_v1 _ _ inb j 0
  have h1 : (((outM.slice (Rect.unit (s := S65536x1024) ![lo o .full, 0] S4096x1024.size inb) (fun _ => rfl)).view.emb j) 1).val = 0 + (j 1).val :=
    ValueKit.view_emb_slice_whole_unit_val main_v1 _ _ inb j 1
  have hj : (j 0).val < 4096 := (j 0).isLt
  show x o j = gath x _
  unfold gath
  have ho : (⟨(((outM.slice (Rect.unit (s := S65536x1024) ![lo o .full, 0] S4096x1024.size inb) (fun _ => rfl)).view.emb j) 0).val / 4096,
      by have := row_lt ((outM.slice (Rect.unit (s := S65536x1024) ![lo o .full, 0] S4096x1024.size inb) (fun _ => rfl)).view.emb j); show _ < 16; omega⟩ : Dev nD) = o := by
    apply Fin.ext; show _ / 4096 = _; rw [h0]; omega
  rw [ho]
  congr 1
  funext a
  apply Fin.ext
  fin_cases a
  · refine Eq.trans ?_ (inBlk_row _).symm
    rw [h0]; show (j 0).val = _; omega
  · refine Eq.trans ?_ (inBlk_col _).symm
    rw [h1]; show (j 1).val = _; omega

/-! ## The rows of a device's result -/

/-- The rows a copy to a device brings. -/
def inReg (c : Dev nD) (t : Xfer) : Finset S65536x1024.Idx := reg (origin (src c t) t) (part t)

/-- The copies made to a device, and by it. -/
def ins (c : Dev nD) : Finset Xfer := Finset.univ.filter fun t => incoming c t = true
def outs (c : Dev nD) : Finset Xfer := Finset.univ.filter fun t => active c t = true

theorem mem_ins {c : Dev nD} {t : Xfer} : t ∈ ins c ↔ incoming c t = true := by
  unfold ins; rw [Finset.mem_filter]; exact and_iff_right (Finset.mem_univ t)
theorem mem_outs {c : Dev nD} {t : Xfer} : t ∈ outs c ↔ active c t = true := by
  unfold outs; rw [Finset.mem_filter]; exact and_iff_right (Finset.mem_univ t)

theorem inReg_disjoint (c : Dev nD) : ∀ t ∈ ins c, ∀ t' ∈ ins c, t ≠ t' → Disjoint (inReg c t) (inReg c t') := by
  intro t ht t' ht' hne
  rw [Finset.disjoint_left]
  intro i hi hi'
  exact hne (cover_unique (mem_ins.mp ht) (mem_ins.mp ht') (mem_reg_iff_holds.mp hi) (mem_reg_iff_holds.mp hi'))

theorem own_disjoint (c : Dev nD) : Disjoint (reg c .full) ((ins c).biUnion (inReg c)) := by
  rw [Finset.disjoint_left]
  intro i hi hi'
  obtain ⟨t, ht, hti⟩ := Finset.mem_biUnion.mp hi'
  have h := cover_own c t (mem_ins.mp ht) (half i) (mem_reg_iff_holds.mp hti)
  rw [mem_reg_iff_holds.mp hi] at h
  exact Bool.noConfusion h

theorem own_union (c : Dev nD) : reg c .full ∪ (ins c).biUnion (inReg c) = Finset.univ := by
  ext i
  refine iff_of_true ?_ (Finset.mem_univ i)
  rw [Finset.mem_union]
  rcases cover c (half i) with h | ⟨t, ht, h⟩
  · exact .inl (mem_reg_iff_holds.mpr h)
  · exact .inr (Finset.mem_biUnion.mpr ⟨t, mem_ins.mpr ht, mem_reg_iff_holds.mpr h⟩)

/-- A block's rows are its upper and its lower half. -/
theorem halves_disjoint (o : Dev nD) : Disjoint (reg o .top) (reg o .bot) := by
  rw [Finset.disjoint_left]
  intro i hi hi'
  rw [mem_reg] at hi hi'
  simp only [lo, len] at hi hi'
  omega
theorem halves_union (o : Dev nD) : reg o .top ∪ reg o .bot = reg o .full := by
  ext i
  rw [Finset.mem_union, mem_reg, mem_reg, mem_reg]
  simp only [lo, len]
  omega

end Cert.AllGather
-- ==== Proof.Sched.lean ====
/-
# The protocol

Every semaphore has one round, and in it:

* a device's entry semaphore (`bar`) is raised by one by each neighbour, which says with it that the rows of ITS result
  the device will copy to it may be written (`barPay`); the device waits for all its neighbours before its first copy;
* a copy raises the device's own leaving semaphore (`snd t`), giving back the rows it was read from (`srcRes`), and the
  target's arrival semaphore (`rcv t`), handing over the rows written, holding the gathered array (`rcvPay`);
* the device's copy of its block to its own result raises `copy`, handing over the block's rows there and giving back
  the share of the input it was read by.

A device waits on its entry semaphore, then on arrivals, each after it has issued every copy that is needed before
it (levels `lv`), then on its leaving semaphores.
-/
module

public import proofs.«01_k».proof.Proof.Rows

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- A device's semaphores: the entry (`bar`) and own-copy (`copy`) semaphores; each copy's leaving and arrival. -/
abbrev Cell : Type := Bool ⊕ (Xfer ⊕ Xfer)
abbrev Cell.bar : Cell := .inl false
abbrev Cell.copy : Cell := .inl true
abbrev Cell.snd (t : Xfer) : Cell := .inr (.inl t)
abbrev Cell.rcv (t : Xfer) : Cell := .inr (.inr t)

/-- The place of a copy's leaving semaphore among the kernel's semaphores, and of its arrival's. -/
def sndIx : Xfer → ℕ
  | .up k => 2 + k.val | .dn k => 8 + k.val
  | .fxo => 14 | .fyo => 16
  | .fxu k => 18 + k.val | .fxd k => 24 + k.val | .fyu k => 30 + k.val | .fyd k => 36 + k.val
  | .gyo => 42 | .hxo => 44
  | .gyu k => 46 + k.val | .gyd k => 52 + k.val | .hxu k => 58 + k.val | .hxd k => 64 + k.val
def rcvIx : Xfer → ℕ
  | .up k => 5 + k.val | .dn k => 11 + k.val
  | .fxo => 15 | .fyo => 17
  | .fxu k => 21 + k.val | .fxd k => 27 + k.val | .fyu k => 33 + k.val | .fyd k => 39 + k.val
  | .gyo => 43 | .hxo => 45
  | .gyu k => 49 + k.val | .gyd k => 55 + k.val | .hxu k => 61 + k.val | .hxd k => 67 + k.val
theorem sndIx_lt : ∀ t, sndIx t < 70 := by decide +kernel
theorem rcvIx_lt : ∀ t, rcvIx t < 70 := by decide +kernel

abbrev barS : Sem sig := (SemArray.scalar (sig.barrier 0 rfl) : Sems sig S_).sem
abbrev copyD : DmaSem sig := (⟨1, by decide⟩ : Fin 70)
abbrev sndD (t : Xfer) : DmaSem sig := (⟨sndIx t, sndIx_lt t⟩ : Fin 70)
abbrev rcvD (t : Xfer) : DmaSem sig := (⟨rcvIx t, rcvIx_lt t⟩ : Fin 70)

def csem : Cell → SemLoc sig
  | .inl false => .reg barS
  | .inl true => .dma copyD
  | .inr (.inl t) => .dma (sndD t)
  | .inr (.inr t) => .dma (rcvD t)

/-- A cell's number: the entry semaphore apart, the place among the kernel's semaphores. -/
def cnum : Cell → ℕ
  | .inl false => 0
  | .inl true => 1
  | .inr (.inl t) => sndIx t
  | .inr (.inr t) => rcvIx t

theorem cnum_inj : ∀ k k', cnum k = cnum k' → k = k' := by decide +kernel

theorem csem_inj : Function.Injective csem := by
  have hnum : ∀ k, (match csem k with | .reg _ => 0 | .dma q => (q : Fin 70).val) = cnum k := by
    intro k; rcases k with (_ | _) | (t | t) <;> rfl
  intro k k' h
  exact cnum_inj k k' ((hnum k).symm.trans ((congrArg (fun s : SemLoc sig => match s with | .reg _ => 0 | .dma q => (q : Fin 70).val) h).trans (hnum k')))

abbrev kcell (c : Dev nD) (k : Cell) : GSem nD τ sig := ((c : Thread nD τ), csem k)
abbrev barCell (c : Dev nD) : GSem nD τ sig := ((c : Thread nD τ), .reg barS)
abbrev copyCell (c : Dev nD) : GSem nD τ sig := ((c : Thread nD τ), .dma copyD)
abbrev sndCell (c : Dev nD) (t : Xfer) : GSem nD τ sig := ((c : Thread nD τ), .dma (sndD t))
abbrev rcvCell (c : Dev nD) (t : Xfer) : GSem nD τ sig := ((c : Thread nD τ), .dma (rcvD t))

theorem kcell_inj : Function.Injective (fun ck : Dev nD × Cell => kcell ck.1 ck.2) := by
  rintro ⟨c, k⟩ ⟨c', k'⟩ h
  have h1 : ((c : Thread nD τ)) = (c' : Thread nD τ) := congrArg Prod.fst h
  have hc : c = c' := congrArg Prod.fst h1
  have hk : k = k' := csem_inj (congrArg Prod.snd h)
  rw [hc, hk]

/-- The cell of this proof at a semaphore, if it is one. -/
def cellAt (s : SemLoc sig) : Option Cell := Function.partialInv csem s
theorem cellAt_csem (k : Cell) : cellAt (csem k) = some k := Function.partialInv_left csem_inj k

/-- The units a whole block's copy raises a semaphore by, and a half block's. -/
abbrev N : ℕ := xM.view.dmaCredit
abbrev Nh : ℕ := sig.dmaCredit .tc (Kind.tc.table .hbm) main_v1.idx S2048x1024 .bf16
theorem N_pos : 0 < N := View.dmaCredit_pos _ (by decide)
theorem Nh_pos : 0 < Nh := sig.dmaCredit_pos _ _ _ _ _ (by decide)

/-- The units a copy raises its semaphores by. -/
def amt (t : Xfer) : ℕ := match part t with | .full => N | _ => Nh
theorem amt_pos (t : Xfer) : 0 < amt t := by unfold amt; split; exacts [N_pos, Nh_pos]
theorem amt_full {t : Xfer} (h : part t = .full) : amt t = N := by unfold amt; rw [h]
theorem amt_half {t : Xfer} (h : part t ≠ .full) : amt t = Nh := by
  unfold amt; cases hp : part t with
  | full => exact absurd hp h
  | top => rfl
  | bot => rfl

/-! ## What is handed over -/

/-- The share of its source a copy reads by. The devices' inputs are read by the copy to the own result and four more;
    a block that came along a column by the copy further along it and to the two neighbours. -/
def share : Xfer → PosShare TreeShare
  | .up 0 => fullShare.left.left
  | .dn 0 => fullShare.left.right
  | .fxo => fullShare.right.left
  | .fyo => fullShare.right.right.left
  | .up _ | .dn _ => fullShare.left
  | .fxu _ | .fxd _ => fullShare.right.left
  | .fyu _ | .fyd _ => fullShare.right.right
  | _ => fullShare
def copyShare : PosShare TreeShare := fullShare.right.right.right

variable (x : Dev nD → Blk F)

/-- Elements of device `c`'s result at given contents, and its input by a share. -/
def outPts (c : Dev nD) (I : Finset S65536x1024.Idx) (q : PosShare TreeShare) (f : Res F) : sProp 𝕄 :=
  outM.view.loc (c : Thread nD τ) ↦[I]{q} f
def xPts (c : Dev nD) (q : PosShare TreeShare) : sProp 𝕄 :=
  xM.view.loc (c : Thread nD τ) ↦[xM.view.set]{q} x c

omit [FloatOps F] in
instance outPts_storable (c : Dev nD) (I) (q) (f) : BI.Storable (upEmb : UEmb _ 𝕄) (outPts (F := F) c I q f) := by
  unfold outPts; infer_instance
omit [FloatOps F] in
instance xPts_storable (c : Dev nD) (q) : BI.Storable (upEmb : UEmb _ 𝕄) (xPts (F := F) x c q) := by unfold xPts; infer_instance

/-- What a copy reads. -/
def srcRes (c : Dev nD) (t : Xfer) : sProp 𝕄 :=
  match parent t with
  | none => xPts x c (share t)
  | some _ => outPts c (reg (origin c t) (part t)) (share t) (gath x)

/-- Where a copy writes, before. -/
def dstRes (c : Dev nD) (t : Xfer) : sProp 𝕄 := iprop(∃ f, outPts (tgt c t) (reg (origin c t) (part t)) fullShare f)

/-- What a copy made to `c` brings. -/
def rcvPay (c : Dev nD) (t : Xfer) : sProp 𝕄 := outPts c (inReg c t) fullShare (gath x)

/-- The copies `c` makes to its neighbour on side `j`. -/
def outsTo (c : Dev nD) (j : Fin 4) : Finset Xfer := (outs c).filter fun t => chan t = j

/-- What the neighbour on side `j` says with its entry signal. -/
def barPay (c : Dev nD) (j : Fin 4) : sProp 𝕄 := bigSep (outsTo c j) fun t => dstRes (F := F) c t

/-- What the own copy brings. -/
def copyPay (c : Dev nD) : sProp 𝕄 := iprop(outPts c (reg c .full) fullShare (gath x) ∗ xPts x c copyShare)

omit [FloatOps F] in
instance srcRes_storable (c : Dev nD) (t) : BI.Storable (upEmb : UEmb _ 𝕄) (srcRes (F := F) x c t) := by
  unfold srcRes; split <;> infer_instance
omit [FloatOps F] in
instance dstRes_storable (c : Dev nD) (t) : BI.Storable (upEmb : UEmb _ 𝕄) (dstRes (F := F) c t) := by
  unfold dstRes; infer_instance
omit [FloatOps F] in
instance rcvPay_storable (c : Dev nD) (t) : BI.Storable (upEmb : UEmb _ 𝕄) (rcvPay (F := F) x c t) := by
  unfold rcvPay; infer_instance
omit [FloatOps F] in
instance barPay_storable (c : Dev nD) (j) : BI.Storable (upEmb : UEmb _ 𝕄) (barPay (F := F) c j) := by
  unfold barPay; infer_instance
omit [FloatOps F] in
instance copyPay_storable (c : Dev nD) : BI.Storable (upEmb : UEmb _ 𝕄) (copyPay (F := F) x c) := by
  unfold copyPay; infer_instance

/-! ## The schedule -/

/-- The sides on which a device has a neighbour. -/
def sides (c : Dev nD) : Finset (Fin 4) := Finset.univ.filter fun j => link c j = true

/-- Who raises a cell: the entry cell one neighbour each side, every other cell one copy, if it is made. -/
def dut (c : Dev nD) : Cell → Finset (Fin 4)
  | .inl false => sides c
  | .inl true => {0}
  | .inr (.inl t) => if active c t = true then {0} else ∅
  | .inr (.inr t) => if incoming c t = true then {0} else ∅
def units : Cell → ℕ
  | .inl false => 1
  | .inl true => N
  | .inr (.inl t) => amt t
  | .inr (.inr t) => amt t
def pay (c : Dev nD) : Cell → Fin 4 → sProp 𝕄
  | .inl false, j => barPay c j
  | .inl true, _ => copyPay x c
  | .inr (.inl t), _ => srcRes x c t
  | .inr (.inr t), _ => rcvPay x c t

theorem units_pos : ∀ k, 0 < units k
  | .inl false => Nat.one_pos
  | .inl true => N_pos
  | .inr (.inl t) => amt_pos t
  | .inr (.inr t) => amt_pos t

def sched : Rounds.Schedule (GSem nD τ sig) (Fin 4) 𝕄 where
  duties g r := if r = 0 ∧ g.1.2 = .tc then (match cellAt g.2 with | some k => dut g.1.1 k | none => ∅) else ∅
  unitless _ := False
  amount g _ _ := match cellAt g.2 with | some k => units k | none => 1
  payload g _ d := match cellAt g.2 with | some k => pay x g.1.1 k d | none => iprop(emp)
  amount_pos g _ _ _ := by
    split
    · exact units_pos _
    · exact Nat.one_pos

omit [FloatOps F] in
instance pay_storable (c : Dev nD) (k : Cell) (d : Fin 4) : BI.Storable (upEmb : UEmb _ 𝕄) (pay (F := F) x c k d) := by
  unfold pay; split <;> infer_instance

omit [FloatOps F] in
instance sched_payload_storable (g : GSem nD τ sig) (r : ℕ) (d : Fin 4) :
    BI.Storable (upEmb : UEmb _ 𝕄) ((sched (F := F) x).payload g r d) := by
  show BI.Storable upEmb (match cellAt g.2 with | some k => pay x g.1.1 k d | none => iprop(emp))
  split <;> infer_instance

section
variable (c : Dev nD)
omit [FloatOps F]

theorem duties_eq (k : Cell) : (sched (F := F) x).duties (kcell c k) 0 = dut c k := by
  dsimp only [sched]; rw [if_pos ⟨rfl, rfl⟩, cellAt_csem]
theorem amount_eq (k : Cell) (d : Fin 4) : (sched (F := F) x).amount (kcell c k) 0 d = units k := by
  dsimp only [sched]; rw [cellAt_csem]
theorem payload_eq (k : Cell) (d : Fin 4) : (sched (F := F) x).payload (kcell c k) 0 d = pay x c k d := by
  dsimp only [sched]; rw [cellAt_csem]
theorem duties_later (g : GSem nD τ sig) : ∀ r, 1 ≤ r → (sched (F := F) x).duties g r = ∅ :=
  fun r hr => by dsimp only [sched]; rw [if_neg fun h => by omega]
theorem expect_eq (k : Cell) : (sched (F := F) x).expect (kcell c k) 0 = (dut c k).card * units k := by
  unfold Schedule.expect Schedule.amountOf
  rw [duties_eq, Finset.sum_congr rfl fun d _ => amount_eq x c k d, Finset.sum_const, smul_eq_mul]
theorem rest_eq (k : Cell) : bigSep ((sched (F := F) x).duties (kcell c k) 0 \ ∅) (fun d => (sched (F := F) x).payload (kcell c k) 0 d)
    = bigSep (dut c k) (fun d => pay x c k d) := by
  rw [Finset.sdiff_empty, duties_eq]; exact bigSep_congr fun d _ => payload_eq x c k d

variable {c}
theorem dut_snd {t : Xfer} (h : active c t = true) : dut c (.snd t) = {0} := if_pos h
theorem dut_rcv {t : Xfer} (h : incoming c t = true) : dut c (.rcv t) = {0} := if_pos h
end

/-! ## Levels, and what is owed -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The entry semaphores at 1, the arrivals at their levels, everything else at 0. -/
def lv (g : GSem nD τ sig) (_ : Unit) : ℕ :=
  match cellAt g.2 with
  | some (.inl false) => 1
  | some (.inr (.inr t)) => lvl t
  | _ => 0
theorem lv_bar (c : Dev nD) : lv (barCell c) () = 1 := by
  unfold lv; rw [show (barCell c).2 = csem .bar from rfl, cellAt_csem]
theorem lv_copy (c : Dev nD) : lv (copyCell c) () = 0 := by
  unfold lv; rw [show (copyCell c).2 = csem .copy from rfl, cellAt_csem]
theorem lv_snd (c : Dev nD) (t : Xfer) : lv (sndCell c t) () = 0 := by
  unfold lv; rw [show (sndCell c t).2 = csem (.snd t) from rfl, cellAt_csem]
theorem lv_rcv (c : Dev nD) (t : Xfer) : lv (rcvCell c t) () = lvl t := by
  unfold lv; rw [show (rcvCell c t).2 = csem (.rcv t) from rfl, cellAt_csem]

/-- The arrivals device `c` still owes at place `n`: those of the copies not issued yet. -/
def unsent (c : Dev nD) (n : ℕ) : Finset Xfer := (outs c).filter fun t => n ≤ pos (.send t)
def owed (c : Dev nD) (n : ℕ) : CellTallies nD τ sig Unit := ∑ t ∈ unsent c n, tallyAt (rcvCell (tgt c t) t) () (amt t)

/-- The entry signals it owes from side `j` on. -/
def sidesFrom (c : Dev nD) (j : ℕ) : Finset (Fin 4) := (sides c).filter fun i => j ≤ i.val
def owedBar (c : Dev nD) (j : ℕ) : CellTallies nD τ sig Unit := ∑ i ∈ sidesFrom c j, tallyAt (barCell (nbr c i)) () 1

theorem tally_pos_cell {A : Type} [DecidableEq A] (s : Finset A) (cell : A → GSem nD τ sig) (n : A → ℕ) {g : GSem nD τ sig} {u : Unit}
    (h : 0 < (∑ a ∈ s, tallyAt (cell a) () (n a) : CellTallies nD τ sig Unit) g u) : ∃ a ∈ s, g = cell a := by
  by_contra hn
  have h0 : ∀ s' ⊆ s, (∑ a ∈ s', tallyAt (cell a) () (n a) : CellTallies nD τ sig Unit) g u = 0 := by
    intro s'
    induction s' using Finset.induction_on with
    | empty => intro _; rw [Finset.sum_empty]; rfl
    | insert a s' ha ih =>
      intro hs
      rw [Finset.sum_insert ha, Pi.add_apply, Finsupp.add_apply, ih (fun b hb => hs (Finset.mem_insert_of_mem hb)), add_zero, tallyAt_apply,
        if_neg fun h' => hn ⟨a, hs (Finset.mem_insert_self a s'), h'.1⟩]
  rw [h0 s (Finset.Subset.refl s)] at h
  exact Nat.lt_irrefl 0 h

omit [FloatOps F] in
/-- At place `n` a device may wait on a semaphore of its own below the levels of the copies it has not issued. -/
theorem mayWait (c : Dev nD) (n : ℕ) (sm : SemLoc sig) (hl : ∀ t ∈ unsent c n, lv ((c : Thread nD τ), sm) () < lvl t) :
    (levAts L lv : sProp 𝕄) ⊢ MayWait (c : Thread nD τ) sm () (owed c n) :=
  MayOwe.of_cut (L := L) (lev := lv) (lv ((c : Thread nD τ), sm) ())
    (fun p hp => by rw [Finset.mem_singleton.mp hp, L_tc]; exact Finset.mem_singleton_self _)
    (fun g u hg => by
      obtain ⟨t, -, rfl⟩ := tally_pos_cell _ _ _ hg
      rw [L_tc]; exact Finset.mem_singleton_self _)
    (fun p hp => by rw [Finset.mem_singleton.mp hp])
    (fun g u hg => by
      obtain ⟨t, ht, rfl⟩ := tally_pos_cell _ _ _ hg
      rw [show u = () from rfl, lv_rcv]; exact hl t ht)

omit [FloatOps F] in
/-- While it owes entry signals and arrivals a device may wait on a semaphore of level 0. -/
theorem mayWait_zero (c : Dev nD) (j n : ℕ) (sm : SemLoc sig) (hl : lv ((c : Thread nD τ), sm) () = 0) :
    (levAts L lv : sProp 𝕄) ⊢ MayWait (c : Thread nD τ) sm () (owed c n + owedBar c j) :=
  MayOwe.of_cut (L := L) (lev := lv) 0
    (fun p hp => by rw [Finset.mem_singleton.mp hp, L_tc]; exact Finset.mem_singleton_self _)
    (fun g u hg => by
      rw [Pi.add_apply, Finsupp.add_apply] at hg
      rcases Nat.add_pos_iff_pos_or_pos.mp hg with hg | hg
      · obtain ⟨t, -, rfl⟩ := tally_pos_cell _ _ _ hg
        rw [L_tc]; exact Finset.mem_singleton_self _
      · obtain ⟨t, -, rfl⟩ := tally_pos_cell _ _ _ hg
        rw [L_tc]; exact Finset.mem_singleton_self _)
    (fun p hp => by rw [Finset.mem_singleton.mp hp, hl])
    (fun g u hg => by
      rw [Pi.add_apply, Finsupp.add_apply] at hg
      rw [show u = () from rfl]
      rcases Nat.add_pos_iff_pos_or_pos.mp hg with hg | hg
      · obtain ⟨t, -, rfl⟩ := tally_pos_cell _ _ _ hg
        rw [lv_rcv]; exact Nat.zero_lt_of_lt (lvl_pos t)
      · obtain ⟨t, -, rfl⟩ := tally_pos_cell _ _ _ hg
        rw [lv_bar]; exact Nat.one_pos)

end Cert.AllGather
-- ==== Proof.State.lean ====
/-
# What a device holds at a place of the program

`Inv … n` is what a device holds before step `n` of its program: for each copy it makes, the means to make it, the
claim on its leaving, or nothing more (`outS`); what the copies read that is not in flight (`handS`); for each copy made
to it, the claim on its arrival or what remained of what it brought (`innS`). A step at `n` changes the entries of its
own copy only; a step the device skips changes nothing.
-/
module

public import proofs.«01_k».proof.Proof.Sched

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable (x : Dev nD → Blk F)

/-! ## What remains of an arrival -/

/-- The copies that read what a copy brought. -/
def kids (p : Xfer) : Finset Xfer := Finset.univ.filter fun t => parent t = some p

/-- What of an arrival no later copy reads. -/
def leftover (c : Dev nD) (p : Xfer) : sProp 𝕄 :=
  match p with
  | .up 2 | .dn 2 => outPts c (inReg c p) fullShare.left (gath x)
  | .up _ | .dn _ => iprop(emp)
  | .fxo | .fxu _ | .fxd _ => outPts c (reg (origin (src c p) p) .bot) fullShare (gath x)
  | .fyo | .fyu _ | .fyd _ => outPts c (reg (origin (src c p) p) .top) fullShare (gath x)
  | _ => outPts c (inReg c p) fullShare (gath x)

theorem eq_of_bi {P Q : sProp 𝕄} (h : P ⊣⊢ Q) : P = Q := BI.Entails.antisymm h.1 h.2

theorem outPts_share (c : Dev nD) (I : Finset S65536x1024.Idx) (q : PosShare TreeShare) (f : Res F) :
    (outPts c I q f : sProp 𝕄) = iprop(outPts c I q.left f ∗ outPts c I q.right f) := by
  unfold outPts; exact eq_of_bi (pointsTo_share (PosShare.mem_left_op_right q))

theorem xPts_share (c : Dev nD) (q : PosShare TreeShare) :
    (xPts x c q : sProp 𝕄) = iprop(xPts x c q.left ∗ xPts x c q.right) := by
  unfold xPts; exact eq_of_bi (pointsTo_share (PosShare.mem_left_op_right q))

theorem outPts_halves (c : Dev nD) (o : Dev nD) (q : PosShare TreeShare) (f : Res F) :
    (outPts c (reg o .full) q f : sProp 𝕄) = iprop(outPts c (reg o .top) q f ∗ outPts c (reg o .bot) q f) := by
  rw [← halves_union o]
  unfold outPts; exact eq_of_bi (pointsTo_union (halves_disjoint o))

/-- What a copy reads of an arrival, by the copy that brought it. -/
theorem srcRes_kid (c : Dev nD) {t p : Xfer} (h : parent t = some p) :
    (srcRes x c t : sProp 𝕄) = outPts c (reg (origin (src c p) p) (part t)) (share t) (gath x) := by
  unfold srcRes; rw [h]; dsimp only; rw [origin_parent c t p h]

theorem srcRes_root (c : Dev nD) {t : Xfer} (h : parent t = none) : (srcRes x c t : sProp 𝕄) = xPts x c (share t) := by
  unfold srcRes; rw [h]

theorem kids_col3 (t u v : Xfer) (p : Xfer) (hk : kids p = {t, u, v}) (htu : t ∉ ({u, v} : Finset Xfer)) (huv : u ∉ ({v} : Finset Xfer))
    (Φ : Xfer → sProp 𝕄) : bigSep (kids p) Φ = iprop(Φ t ∗ Φ u ∗ Φ v) := by
  rw [hk, bigSep_insert htu, bigSep_insert huv, bigSep_singleton]; rfl
theorem kids_col2 (u v : Xfer) (p : Xfer) (hk : kids p = {u, v}) (huv : u ∉ ({v} : Finset Xfer))
    (Φ : Xfer → sProp 𝕄) : bigSep (kids p) Φ = iprop(Φ u ∗ Φ v) := by
  rw [hk, bigSep_insert huv, bigSep_singleton]; rfl
theorem kids_one (v : Xfer) (p : Xfer) (hk : kids p = {v}) (Φ : Xfer → sProp 𝕄) : bigSep (kids p) Φ = Φ v := by
  rw [hk, bigSep_singleton]
theorem kids_none (p : Xfer) (hk : kids p = ∅) (Φ : Xfer → sProp 𝕄) : bigSep (kids p) Φ = iprop(emp) := by
  rw [hk, bigSep_empty]; rfl

theorem emp_sep_eq (P : sProp 𝕄) : iprop(emp ∗ P) = P := BI.equiv_iff.mp emp_sep
theorem sep_emp_eq (P : sProp 𝕄) : iprop(P ∗ emp) = P := BI.equiv_iff.mp sep_emp

/-- A block's rows, cut as a column arrival's three readers hold them. -/
theorem split_col (c o : Dev nD) : (outPts c (reg o .full) fullShare (gath x) : sProp 𝕄)
    = iprop(outPts c (reg o .full) fullShare.left (gath x) ∗ outPts c (reg o .full) fullShare.right.left (gath x)
        ∗ outPts c (reg o .full) fullShare.right.right (gath x)) := by
  rw [outPts_share c _ fullShare, outPts_share c _ fullShare.right]

theorem rcvPay_split (c : Dev nD) (p : Xfer) :
    (rcvPay x c p : sProp 𝕄) = iprop(leftover x c p ∗ bigSep (kids p) fun t => srcRes x c t) := by
  have col3 : ∀ t u v, part p = .full → leftover x c p = (iprop(emp) : sProp 𝕄) → kids p = {t, u, v} → t ∉ ({u, v} : Finset Xfer) → u ∉ ({v} : Finset Xfer)
      → parent t = some p → parent u = some p → parent v = some p → part t = .full → part u = .full → part v = .full
      → share t = fullShare.left → share u = fullShare.right.left → share v = fullShare.right.right
      → (rcvPay x c p : sProp 𝕄) = iprop(leftover x c p ∗ bigSep (kids p) fun t => srcRes x c t) := by
    intro t u v hp hl hk h1 h2 ht hu hv pt pu pv st su sv
    rw [hl, kids_col3 t u v p hk h1 h2, srcRes_kid x c ht, srcRes_kid x c hu, srcRes_kid x c hv, pt, pu, pv, st, su, sv, emp_sep_eq, ← split_col]
    unfold rcvPay inReg; rw [hp]
  have col2 : ∀ u v, part p = .full → leftover x c p = (outPts c (inReg c p) fullShare.left (gath x) : sProp 𝕄) → kids p = {u, v} → u ∉ ({v} : Finset Xfer)
      → parent u = some p → parent v = some p → part u = .full → part v = .full
      → share u = fullShare.right.left → share v = fullShare.right.right
      → (rcvPay x c p : sProp 𝕄) = iprop(leftover x c p ∗ bigSep (kids p) fun t => srcRes x c t) := by
    intro u v hp hl hk h2 hu hv pu pv su sv
    rw [hl, kids_col2 u v p hk h2, srcRes_kid x c hu, srcRes_kid x c hv, pu, pv, su, sv]
    unfold rcvPay inReg; rw [hp, ← split_col]
  have top : ∀ v, part p = .full → leftover x c p = (outPts c (reg (origin (src c p) p) .bot) fullShare (gath x) : sProp 𝕄) → kids p = {v}
      → parent v = some p → part v = .top → share v = fullShare
      → (rcvPay x c p : sProp 𝕄) = iprop(leftover x c p ∗ bigSep (kids p) fun t => srcRes x c t) := by
    intro v hp hl hk hv pv sv
    rw [hl, kids_one v p hk, srcRes_kid x c hv, pv, sv]
    unfold rcvPay inReg; rw [hp, outPts_halves]
    exact eq_of_bi BI.Laws.sep_comm
  have bot : ∀ v, part p = .full → leftover x c p = (outPts c (reg (origin (src c p) p) .top) fullShare (gath x) : sProp 𝕄) → kids p = {v}
      → parent v = some p → part v = .bot → share v = fullShare
      → (rcvPay x c p : sProp 𝕄) = iprop(leftover x c p ∗ bigSep (kids p) fun t => srcRes x c t) := by
    intro v hp hl hk hv pv sv
    rw [hl, kids_one v p hk, srcRes_kid x c hv, pv, sv]
    unfold rcvPay inReg; rw [hp, outPts_halves]
  have none : leftover x c p = (outPts c (inReg c p) fullShare (gath x) : sProp 𝕄) → kids p = ∅
      → (rcvPay x c p : sProp 𝕄) = iprop(leftover x c p ∗ bigSep (kids p) fun t => srcRes x c t) := by
    intro hl hk
    rw [hl, kids_none p hk, sep_emp_eq]; rfl
  cases p with
  | up k => fin_cases k
            · exact col3 (.up 1) (.fxu 0) (.fyu 0) rfl rfl (by decide +kernel) (by decide) (by decide) rfl rfl rfl rfl rfl rfl rfl rfl rfl
            · exact col3 (.up 2) (.fxu 1) (.fyu 1) rfl rfl (by decide +kernel) (by decide) (by decide) rfl rfl rfl rfl rfl rfl rfl rfl rfl
            · exact col2 (.fxu 2) (.fyu 2) rfl rfl (by decide +kernel) (by decide) rfl rfl rfl rfl rfl rfl
  | dn k => fin_cases k
            · exact col3 (.dn 1) (.fxd 0) (.fyd 0) rfl rfl (by decide +kernel) (by decide) (by decide) rfl rfl rfl rfl rfl rfl rfl rfl rfl
            · exact col3 (.dn 2) (.fxd 1) (.fyd 1) rfl rfl (by decide +kernel) (by decide) (by decide) rfl rfl rfl rfl rfl rfl rfl rfl rfl
            · exact col2 (.fxd 2) (.fyd 2) rfl rfl (by decide +kernel) (by decide) rfl rfl rfl rfl rfl rfl
  | fxo => exact top .gyo rfl rfl (by decide +kernel) rfl rfl rfl
  | fyo => exact bot .hxo rfl rfl (by decide +kernel) rfl rfl rfl
  | fxu k => exact top (.gyu k) rfl rfl ((show ∀ k, kids (.fxu k) = {.gyu k} by decide +kernel) k) rfl rfl rfl
  | fxd k => exact top (.gyd k) rfl rfl ((show ∀ k, kids (.fxd k) = {.gyd k} by decide +kernel) k) rfl rfl rfl
  | fyu k => exact bot (.hxu k) rfl rfl ((show ∀ k, kids (.fyu k) = {.hxu k} by decide +kernel) k) rfl rfl rfl
  | fyd k => exact bot (.hxd k) rfl rfl ((show ∀ k, kids (.fyd k) = {.hxd k} by decide +kernel) k) rfl rfl rfl
  | gyo => exact none rfl (by decide +kernel)
  | hxo => exact none rfl (by decide +kernel)
  | gyu k => exact none rfl ((show ∀ k, kids (.gyu k) = ∅ by decide +kernel) k)
  | gyd k => exact none rfl ((show ∀ k, kids (.gyd k) = ∅ by decide +kernel) k)
  | hxu k => exact none rfl ((show ∀ k, kids (.hxu k) = ∅ by decide +kernel) k)
  | hxd k => exact none rfl ((show ∀ k, kids (.hxd k) = ∅ by decide +kernel) k)

/-! ## The state -/

/-- A copy not issued: its two duties, where it writes, the place on its leaving semaphore. -/
def pend (c : Dev nD) (t : Xfer) : sProp 𝕄 :=
  iprop(dutyTok ER (sndCell c t) 0 0 ∗ dutyTok ER (rcvCell (tgt c t) t) 0 0 ∗ dstRes c t ∗ atPos ER (sndCell c t) 0 ∅ 0)
/-- A copy in flight: the claim on its leaving. -/
def flying (c : Dev nD) (t : Xfer) : sProp 𝕄 := iprop(cred (tallyAt (sndCell c t) () (amt t)) ∗ atPos ER (sndCell c t) 0 ∅ 0)
/-- A copy that has left, and one that is not made. -/
def flown (c : Dev nD) (t : Xfer) : sProp 𝕄 := atPos ER (sndCell c t) 1 ∅ 0
def idle (c : Dev nD) (t : Xfer) : sProp 𝕄 := atPos ER (sndCell c t) 0 ∅ 0

def outS (c : Dev nD) (n : ℕ) (t : Xfer) : sProp 𝕄 :=
  if active c t = true then (if n ≤ pos (.send t) then pend c t else if n ≤ pos (.done t) then flying c t else flown c t) else idle c t

/-- What a copy reads is there: of the own input always, of an arrival once it was waited for. -/
def avail (c : Dev nD) (n : ℕ) (t : Xfer) : Prop := ∀ p, parent t = some p → incoming c p = true ∧ pos (.recv p) < n
instance (c : Dev nD) (n : ℕ) (t : Xfer) : Decidable (avail c n t) := by unfold avail; exact Fintype.decidableForallFintype

def flies (c : Dev nD) (n : ℕ) (t : Xfer) : Prop := active c t = true ∧ pos (.send t) < n ∧ n ≤ pos (.done t)
instance (c : Dev nD) (n : ℕ) (t : Xfer) : Decidable (flies c n t) := by unfold flies; infer_instance

def handS (c : Dev nD) (n : ℕ) (t : Xfer) : sProp 𝕄 :=
  if flies c n t then iprop(emp) else if avail c n t then srcRes x c t else iprop(emp)

/-- An arrival not waited for, and one waited for. -/
def waiting (c : Dev nD) (t : Xfer) : sProp 𝕄 := iprop(cred (tallyAt (rcvCell c t) () (amt t)) ∗ atPos ER (rcvCell c t) 0 ∅ 0)
def arrived (c : Dev nD) (t : Xfer) : sProp 𝕄 := iprop(atPos ER (rcvCell c t) 1 ∅ 0 ∗ leftover x c t)

def innS (c : Dev nD) (n : ℕ) (t : Xfer) : sProp 𝕄 :=
  if incoming c t = true then (if n ≤ pos (.recv t) then waiting c t else arrived x c t) else atPos ER (rcvCell c t) 0 ∅ 0

/-- Every cell's invariant, and that its round is open. -/
def recs (K : Dev nD × Cell → ℕ) : sProp 𝕄 :=
  bigSep Finset.univ fun ck : Dev nD × Cell => iprop(cellInv ER (sched x) (K ck) (kcell ck.1 ck.2) ∗ reached ER (kcell ck.1 ck.2) 0)

instance recs_persistent (K : Dev nD × Cell → ℕ) : BI.Persistent (recs (F := F) x K) := by unfold recs; infer_instance

theorem recs_at (K : Dev nD × Cell → ℕ) (c : Dev nD) (k : Cell) :
    (recs (F := F) x K) ⊢ iprop(cellInv ER (sched x) (K (c, k)) (kcell c k) ∗ reached ER (kcell c k) 0) :=
  bigSep_elim (Φ := fun ck : Dev nD × Cell => iprop(cellInv ER (sched x) (K ck) (kcell ck.1 ck.2) ∗ reached ER (kcell ck.1 ck.2) 0))
    (Finset.mem_univ (c, k))

/-- What device `c` holds before step `n`, beside `R`. -/
def Inv (K : Dev nD × Cell → ℕ) (c : Dev nD) (R : sProp 𝕄) (n : ℕ) : sProp 𝕄 :=
  iprop(recs x K ∗ levAts L lv ∗ R ∗ (∃ W, owes (c : Thread nD τ) (owed c n) W)
    ∗ bigSep Finset.univ (outS c n) ∗ bigSep Finset.univ (handS x c n) ∗ bigSep Finset.univ (innS x c n))

/-! ## What a step does not change -/

section
variable {c : Dev nD} {n : ℕ}

theorem outS_congr {t : Xfer} (hs : pos (.send t) = n → active c t = false) (hd : pos (.done t) = n → active c t = false) :
    (outS c n t : sProp 𝕄) = outS c (n + 1) t := by
  unfold outS
  by_cases ha : active c t = true
  · have h1 : pos (.send t) ≠ n := fun h => Bool.false_ne_true ((hs h).symm.trans ha)
    have h2 : pos (.done t) ≠ n := fun h => Bool.false_ne_true ((hd h).symm.trans ha)
    rw [if_pos ha, if_pos ha]
    exact if_congr (by omega) rfl (if_congr (by omega) rfl rfl)
  · rw [if_neg ha, if_neg ha]

theorem handS_congr {t : Xfer} (hs : pos (.send t) = n → active c t = false) (hd : pos (.done t) = n → active c t = false)
    (hr : ∀ p, parent t = some p → pos (.recv p) = n → incoming c p = false) :
    (handS x c n t : sProp 𝕄) = handS x c (n + 1) t := by
  unfold handS
  refine if_congr ?_ rfl (if_congr ?_ rfl rfl)
  · unfold flies
    refine and_congr_right fun ha => ?_
    have h1 : pos (.send t) ≠ n := fun h => Bool.false_ne_true ((hs h).symm.trans ha)
    have h2 : pos (.done t) ≠ n := fun h => Bool.false_ne_true ((hd h).symm.trans ha)
    omega
  · unfold avail
    refine forall_congr' fun p => imp_congr_right fun hp => and_congr_right fun hi => ?_
    have h1 : pos (.recv p) ≠ n := fun h => Bool.false_ne_true ((hr p hp h).symm.trans hi)
    omega

theorem innS_congr {t : Xfer} (hr : pos (.recv t) = n → incoming c t = false) : (innS x c n t : sProp 𝕄) = innS x c (n + 1) t := by
  unfold innS
  by_cases hi : incoming c t = true
  · have h1 : pos (.recv t) ≠ n := fun h => Bool.false_ne_true ((hr h).symm.trans hi)
    rw [if_pos hi, if_pos hi]
    exact if_congr (by omega) rfl rfl
  · rw [if_neg hi, if_neg hi]

theorem unsent_congr (hs : ∀ t, pos (.send t) = n → active c t = false) : unsent c n = unsent c (n + 1) := by
  unfold unsent
  refine Finset.filter_congr fun t ht => ?_
  have h1 : pos (.send t) ≠ n := fun h => Bool.false_ne_true ((hs t h).symm.trans (mem_outs.mp ht))
  omega

theorem owed_congr (hs : ∀ t, pos (.send t) = n → active c t = false) : owed c n = owed c (n + 1) := by
  unfold owed; rw [unsent_congr hs]

/-- Whether the device takes the step. -/
def takes (c : Dev nD) : Step → Bool
  | .send t => active c t
  | .recv t => incoming c t
  | .done t => active c t

/-- A step not taken changes nothing. -/
theorem Inv_skip (K : Dev nD × Cell → ℕ) (R : sProp 𝕄) (s : Step) (hn : pos s = n) (h : takes c s = false) : Inv x K c R n = Inv x K c R (n + 1) := by
  have hs : ∀ t, pos (.send t) = n → active c t = false := fun t ht => by
    have e : s = .send t := pos_inj (hn.trans ht.symm)
    rw [e] at h; exact h
  have hd : ∀ t, pos (.done t) = n → active c t = false := fun t ht => by
    have e : s = .done t := pos_inj (hn.trans ht.symm)
    rw [e] at h; exact h
  have hr : ∀ t, pos (.recv t) = n → incoming c t = false := fun t ht => by
    have e : s = .recv t := pos_inj (hn.trans ht.symm)
    rw [e] at h; exact h
  unfold Inv
  rw [owed_congr hs, bigSep_congr fun t _ => outS_congr (hs t) (hd t), bigSep_congr fun t _ => handS_congr x (hs t) (hd t) fun p _ => hr p,
    bigSep_congr fun t _ => innS_congr x (hr t)]

/-- Steps not taken change nothing. -/
theorem Inv_skips (K : Dev nD × Cell → ℕ) (R : sProp 𝕄) (k : ℕ) (h : ∀ s ∈ (steps.drop n).take k, takes c s = false) (hk : n + k ≤ 102) :
    Inv x K c R n = Inv x K c R (n + k) := by
  have hlen : steps.length = 102 := rfl
  have hnd : steps.Nodup := by decide +kernel
  have hstep : ∀ j, j < k → Inv x K c R (n + j) = Inv x K c R (n + (j + 1)) := by
    intro j hj
    have hlt : n + j < steps.length := by omega
    refine Inv_skip x K R (steps[n + j]) (hnd.idxOf_getElem (n + j) hlt) (h _ ?_)
    rw [List.mem_take_iff_getElem]
    refine ⟨j, by rw [List.length_drop]; omega, ?_⟩
    rw [List.getElem_drop]
  have hall : ∀ j, j ≤ k → Inv x K c R n = Inv x K c R (n + j) := by
    intro j
    induction j with
    | zero => intro _; rfl
    | succ j ih => intro hj; exact (ih (by omega)).trans (hstep j (by omega))
  exact hall k (Nat.le_refl k)

end

end Cert.AllGather
-- ==== Proof.Steps.lean ====
/-
# The three steps

A copy issued, the wait for an arrival, the wait for a copy to have left: each takes a device from `Inv … n` to
`Inv … (n + 1)`. They are stated for the operation the program performs, whatever follows it.
-/
module

public import proofs.«01_k».proof.Proof.State

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Blk F)

/-! ## The entries a step changes -/

section
omit [FloatOps F]
variable {c : Dev nD} {n : ℕ} {t : Xfer}

theorem bigSep_erase_congr (t : Xfer) {Φ Ψ : Xfer → sProp 𝕄} {P Q : sProp 𝕄} (h : ∀ t', t' ≠ t → Φ t' = Ψ t') :
    bigSep Finset.univ Φ = iprop(Φ t ∗ bigSep (Finset.univ.erase t) Ψ) := by
  rw [bigSep_univ_at Φ t, bigSep_congr fun t' ht' => h t' (Finset.ne_of_mem_erase ht')]

theorem send_ne {s : Step} (hn : pos s = n) (t' : Xfer) (hne : s ≠ .send t') : pos (.send t') = n → active c t' = false :=
  fun h => absurd (pos_inj (hn.trans h.symm)) hne
theorem done_ne {s : Step} (hn : pos s = n) (t' : Xfer) (hne : s ≠ .done t') : pos (.done t') = n → active c t' = false :=
  fun h => absurd (pos_inj (hn.trans h.symm)) hne
theorem recv_ne {s : Step} (hn : pos s = n) (t' : Xfer) (hne : s ≠ .recv t') : pos (.recv t') = n → incoming c t' = false :=
  fun h => absurd (pos_inj (hn.trans h.symm)) hne

theorem avail_of_active (ha : active c t = true) {m : ℕ} (hm : pos (.send t) ≤ m) : avail c m t := fun p hp =>
  ⟨incoming_parent c t p ha hp, lt_of_lt_of_le (recv_lt_send t p hp) hm⟩

/-- Issuing copy `t` -/
theorem outS_send (hn : pos (.send t) = n) (ha : active c t = true) :
    (bigSep Finset.univ (outS c n) : sProp 𝕄) = iprop(pend c t ∗ bigSep (Finset.univ.erase t) (outS c (n + 1))) := by
  rw [bigSep_erase_congr t (P := iprop(emp)) (Q := iprop(emp)) fun t' ht' => outS_congr (send_ne hn t' fun h => ht' (Step.send.inj h).symm) (done_ne hn t' (by exact fun h => by cases h))]
  unfold outS; rw [if_pos ha, if_pos (by omega)]
theorem outS_sent (hn : pos (.send t) = n) (ha : active c t = true) :
    (bigSep Finset.univ (outS c (n + 1)) : sProp 𝕄) = iprop(flying c t ∗ bigSep (Finset.univ.erase t) (outS c (n + 1))) := by
  have h := send_lt_done t
  rw [bigSep_univ_at _ t]
  conv_lhs => unfold outS
  rw [if_pos ha, if_neg (by omega), if_pos (by omega)]
  rfl
theorem handS_send (hn : pos (.send t) = n) (ha : active c t = true) :
    (bigSep Finset.univ (handS x c n) : sProp 𝕄) = iprop(srcRes x c t ∗ bigSep (Finset.univ.erase t) (handS x c (n + 1))) := by
  rw [bigSep_erase_congr t (P := iprop(emp)) (Q := iprop(emp)) fun t' ht' => handS_congr x (send_ne hn t' fun h => ht' (Step.send.inj h).symm) (done_ne hn t' (by exact fun h => by cases h))
    fun p _ => recv_ne hn p (by exact fun h => by cases h)]
  unfold handS
  rw [if_neg (fun h => by have := h.2.1; omega), if_pos (avail_of_active ha (by omega))]
theorem handS_sent (hn : pos (.send t) = n) (ha : active c t = true) :
    (bigSep Finset.univ (handS x c (n + 1)) : sProp 𝕄) = bigSep (Finset.univ.erase t) (handS x c (n + 1)) := by
  have h := send_lt_done t
  rw [bigSep_univ_at _ t]
  conv_lhs => unfold handS
  rw [if_pos ⟨ha, by omega, by omega⟩, emp_sep_eq]
  rfl
theorem innS_send (hn : pos (.send t) = n) : (bigSep Finset.univ (innS x c n) : sProp 𝕄) = bigSep Finset.univ (innS x c (n + 1)) :=
  bigSep_congr fun t' _ => innS_congr x (recv_ne hn t' (by exact fun h => by cases h))
theorem owed_send (hn : pos (.send t) = n) (ha : active c t = true) :
    owed c n = owed c (n + 1) + tallyAt (rcvCell (tgt c t) t) () (amt t) := by
  have hnot : t ∉ unsent c (n + 1) := fun h => by
    have := (Finset.mem_filter.mp h).2; omega
  have hins : unsent c n = insert t (unsent c (n + 1)) := by
    ext t'
    unfold unsent
    rw [Finset.mem_insert, Finset.mem_filter, Finset.mem_filter]
    constructor
    · rintro ⟨h1, h2⟩
      by_cases he : t' = t
      · exact .inl he
      · have : pos (.send t') ≠ pos (.send t) := fun h => he (Step.send.inj (pos_inj h))
        exact .inr ⟨h1, by omega⟩
    · rintro (rfl | ⟨h1, h2⟩)
      · exact ⟨mem_outs.mpr ha, by omega⟩
      · exact ⟨h1, by omega⟩
  unfold owed
  rw [hins, Finset.sum_insert hnot, add_comm]

/-- the wait for the arrival of copy `t` -/
theorem outS_recv (hn : pos (.recv t) = n) : (bigSep Finset.univ (outS c n) : sProp 𝕄) = bigSep Finset.univ (outS c (n + 1)) :=
  bigSep_congr fun t' _ => outS_congr (send_ne hn t' (by exact fun h => by cases h)) (done_ne hn t' (by exact fun h => by cases h))
theorem handS_recv (hn : pos (.recv t) = n) (hi : incoming c t = true) :
    (bigSep Finset.univ (handS x c (n + 1)) : sProp 𝕄) = iprop((bigSep (kids t) fun t' => srcRes x c t') ∗ bigSep Finset.univ (handS x c n)) := by
  rw [bigSep_filter_split Finset.univ (fun t' => parent t' = some t) (Φ := handS x c (n + 1)),
    bigSep_filter_split Finset.univ (fun t' => parent t' = some t) (Φ := handS x c n)]
  have h1 : bigSep (Finset.univ.filter fun t' => parent t' = some t) (handS x c n) = (iprop(emp) : sProp 𝕄) := by
    refine (bigSep_congr fun t' ht' => ?_).trans (bigSep_emp_const _)
    have hp := (Finset.mem_filter.mp ht').2
    unfold handS
    rw [if_neg (fun h : avail c n t' => by have := (h t hp).2; omega), ite_self]
    rfl
  have h2 : bigSep (Finset.univ.filter fun t' => parent t' = some t) (handS x c (n + 1)) = (bigSep (kids t) fun t' => srcRes x c t' : sProp 𝕄) := by
    refine bigSep_congr fun t' ht' => ?_
    have hp := (Finset.mem_filter.mp ht').2
    have hlt := recv_lt_send t' t hp
    unfold handS
    rw [if_neg (fun h => by have := h.2.1; omega), if_pos]
    intro p hp'
    rw [hp] at hp'
    cases hp'
    exact ⟨hi, by omega⟩
  have h3 : bigSep (Finset.univ.filter fun t' => ¬ parent t' = some t) (handS x c n)
      = (bigSep (Finset.univ.filter fun t' => ¬ parent t' = some t) (handS x c (n + 1)) : sProp 𝕄) := by
    refine bigSep_congr fun t' ht' => ?_
    have hp := (Finset.mem_filter.mp ht').2
    exact handS_congr x (send_ne hn t' (by exact fun h => by cases h)) (done_ne hn t' (by exact fun h => by cases h))
      fun p hp' => recv_ne hn p fun h => hp (by rw [hp', Step.recv.inj h])
  rw [h1, h2, h3]
  exact congrArg (fun P => iprop((bigSep (kids t) fun t' => srcRes x c t') ∗ P)) (emp_sep_eq _).symm
theorem innS_recv (hn : pos (.recv t) = n) (hi : incoming c t = true) :
    (bigSep Finset.univ (innS x c n) : sProp 𝕄) = iprop(waiting c t ∗ bigSep (Finset.univ.erase t) (innS x c (n + 1))) := by
  rw [bigSep_erase_congr t (P := iprop(emp)) (Q := iprop(emp)) fun t' ht' => innS_congr x (recv_ne hn t' fun h => ht' (Step.recv.inj h).symm)]
  unfold innS; rw [if_pos hi, if_pos (by omega)]
theorem innS_recvd (hn : pos (.recv t) = n) (hi : incoming c t = true) :
    (bigSep Finset.univ (innS x c (n + 1)) : sProp 𝕄) = iprop(arrived x c t ∗ bigSep (Finset.univ.erase t) (innS x c (n + 1))) := by
  rw [bigSep_univ_at _ t]
  conv_lhs => unfold innS
  rw [if_pos hi, if_neg (by omega)]
  rfl
theorem owed_recv (hn : pos (.recv t) = n) : owed c n = owed c (n + 1) :=
  owed_congr fun t' => send_ne hn t' (by exact fun h => by cases h)

/-- and the wait for copy `t` to have left. -/
theorem outS_done (hn : pos (.done t) = n) (ha : active c t = true) :
    (bigSep Finset.univ (outS c n) : sProp 𝕄) = iprop(flying c t ∗ bigSep (Finset.univ.erase t) (outS c (n + 1))) := by
  have h := send_lt_done t
  rw [bigSep_erase_congr t (P := iprop(emp)) (Q := iprop(emp)) fun t' ht' => outS_congr (send_ne hn t' (by exact fun h => by cases h)) (done_ne hn t' fun h => ht' (Step.done.inj h).symm)]
  unfold outS; rw [if_pos ha, if_neg (by omega), if_pos (by omega)]
theorem outS_left (hn : pos (.done t) = n) (ha : active c t = true) :
    (bigSep Finset.univ (outS c (n + 1)) : sProp 𝕄) = iprop(flown c t ∗ bigSep (Finset.univ.erase t) (outS c (n + 1))) := by
  have h := send_lt_done t
  rw [bigSep_univ_at _ t]
  conv_lhs => unfold outS
  rw [if_pos ha, if_neg (by omega), if_neg (by omega)]
  rfl
theorem handS_done (hn : pos (.done t) = n) (ha : active c t = true) :
    (bigSep Finset.univ (handS x c n) : sProp 𝕄) = bigSep (Finset.univ.erase t) (handS x c (n + 1)) := by
  have h := send_lt_done t
  rw [bigSep_erase_congr t (P := iprop(emp)) (Q := iprop(emp)) fun t' ht' => handS_congr x (send_ne hn t' (by exact fun h => by cases h)) (done_ne hn t' fun h => ht' (Step.done.inj h).symm)
    fun p _ => recv_ne hn p (by exact fun h => by cases h)]
  conv_lhs => unfold handS
  rw [if_pos ⟨ha, by omega, by omega⟩, emp_sep_eq]
  rfl
theorem handS_left (hn : pos (.done t) = n) (ha : active c t = true) :
    (bigSep Finset.univ (handS x c (n + 1)) : sProp 𝕄) = iprop(srcRes x c t ∗ bigSep (Finset.univ.erase t) (handS x c (n + 1))) := by
  have h := send_lt_done t
  rw [bigSep_univ_at _ t]
  conv_lhs => unfold handS
  rw [if_neg (fun h => by have := h.2.2; omega), if_pos (avail_of_active ha (by omega))]
  rfl
theorem innS_done (hn : pos (.done t) = n) : (bigSep Finset.univ (innS x c n) : sProp 𝕄) = bigSep Finset.univ (innS x c (n + 1)) :=
  bigSep_congr fun t' _ => innS_congr x (recv_ne hn t' (by exact fun h => by cases h))
theorem owed_done (hn : pos (.done t) = n) : owed c n = owed c (n + 1) :=
  owed_congr fun t' => send_ne hn t' (by exact fun h => by cases h)

end

/-! ## The steps -/

abbrev 𝒱₀ : Variants := Variants.none

/-- The weakest precondition of a program of device `c`. -/
@[irreducible] def WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section
variable {x}

/-- A copy issued, its source and its rows given by what they hold. -/
theorem step_send {c : Dev nD} {K : Dev nD × Cell → ℕ} {R : sProp 𝕄} {n : ℕ} {α : Type} {Q : α → sProp 𝕄}
    {k : PUnit → Prog (TpuEff nD τ sig (Elt F) Λ₀ .tc) α}
    {sp : Space} {off sz : Fin 2 → ℕ} {inb : ∀ a, off a + sz a ≤ S65536x1024.size a}
    {srcM : Memref sig .tc sp (Rect.unit (s := S65536x1024) off sz inb).shape .bf16} {d : Dev nD} {sS sR : DmaSem sig}
    {hsc : (outM.slice (Rect.unit (s := S65536x1024) off sz inb) (fun _ => rfl)).view.ref.isScScratch = false}
    {hsrc : srcM.view.WordExact} {hdst : (outM.slice (Rect.unit (s := S65536x1024) off sz inb) (fun _ => rfl)).view.WordExact}
    {hsem : DmaTarget.Typed sp (.dma sR) (.remote (Dev.tc d : Thread nD τ) (outM.slice (Rect.unit (s := S65536x1024) off sz inb) (fun _ => rfl)) (.dma sS) hsc)}
    (t : Xfer) (ha : active c t = true) (fs : Buf (Elt F) (srcM.view.loc (c : Thread nD τ)))
    (hres : (srcRes x c t : sProp 𝕄) = (srcM.view.loc (c : Thread nD τ) ↦[srcM.view.set]{share t} fs))
    (hset : (outM.slice (Rect.unit (s := S65536x1024) off sz inb) (fun _ => rfl)).view.set = reg (origin c t) (part t))
    (hval : ∀ f : Res F, ∀ i ∈ reg (origin c t) (part t),
      (outM.slice (Rect.unit (s := S65536x1024) off sz inb) (fun _ => rfl)).view.write (Elt F) f (srcM.view.read (Elt F) fs) Finset.univ i = gath x i)
    (hamt : (outM.slice (Rect.unit (s := S65536x1024) off sz inb) (fun _ => rfl)).view.dmaCredit = amt t)
    (hd : d = tgt c t) (hS : sS = sndD t) (hR : sR = rcvD t) (hn : pos (.send t) = n)
    (hk : Inv x K c R (n + 1) ⊢ WP c (k ⟨⟩) Q) :
    Inv x K c R n ⊢ WP c (.op (.enqueueDma srcM (.remote (Dev.tc d : Thread nD τ) (outM.slice (Rect.unit (s := S65536x1024) off sz inb) (fun _ => rfl)) (.dma sS) hsc) (.dma sR) hsrc hdst hsem) k) Q := by
  subst hd hS hR
  unfold Inv WP at hk ⊢
  rw [outS_sent hn ha, handS_sent x hn ha] at hk
  rw [outS_send hn ha, handS_send x hn ha, innS_send x hn, owed_send hn ha, hres]
  have hamt' : (outM.slice (Rect.unit (s := S65536x1024) off sz inb) (fun _ => rfl)).view.amount (.dma (rcvD t)) = amt t := hamt
  have hdown : ∀ f : Res F, (((outM.slice (Rect.unit (s := S65536x1024) off sz inb) (fun _ => rfl)).view.loc (Dev.tc (tgt c t) : Thread nD τ)
        ↦[(outM.slice (Rect.unit (s := S65536x1024) off sz inb) (fun _ => rfl)).view.set]{fullShare}
          (outM.slice (Rect.unit (s := S65536x1024) off sz inb) (fun _ => rfl)).view.write (Elt F) f (srcM.view.read (Elt F) fs) Finset.univ) : sProp 𝕄)
      = rcvPay x (tgt c t) t := by
    intro f
    rw [hset]
    have hr : rcvPay x (tgt c t) t = (outPts (tgt c t) (reg (origin c t) (part t)) fullShare (gath x) : sProp 𝕄) := by
      unfold rcvPay inReg
      rw [src_tgt]
    rw [hr]
    unfold outPts
    exact pointsTo_congr (hval f)
  unfold pend dstRes
  iintro ⟨#Hrecs, #Hlev, HR, ⟨%W, HO⟩, ⟨⟨Hts, Htr, ⟨%f, Hdst⟩, Hat⟩, Hout⟩, ⟨Hsrc, Hhand⟩, Hinn⟩
  ihave #Hs := (recs_at x K c (.snd t)) $$ Hrecs
  icases Hs with ⟨#HIs, #Hrs⟩
  ihave #Hr := (recs_at x K (tgt c t) (.rcv t)) $$ Hrecs
  icases Hr with ⟨#HIr, #Hrr⟩
  ihave Hd := (Entails.of_eq (show (outPts (tgt c t) (reg (origin c t) (part t)) fullShare f : sProp 𝕄)
    = ((outM.slice (Rect.unit (s := S65536x1024) off sz inb) (fun _ => rfl)).view.loc (Dev.tc (tgt c t) : Thread nD τ)
        ↦[(outM.slice (Rect.unit (s := S65536x1024) off sz inb) (fun _ => rfl)).view.set]{fullShare} f) by rw [hset]; rfl)) $$ Hdst
  iapply (Rounds.wp_send_pointsTo 𝒱₀ ER (sched x) (c : Thread nD τ) none (κ₁ := K (c, .snd t)) (κ₂ := K (tgt c t, .rcv t))
    (r₁ := 0) (r₂ := 0) (d₁ := 0) (d₂ := 0) (fd := f) (fs := fs) (q := share t)
    (by rw [duties_eq x c (.snd t), dut_snd ha]; exact Finset.mem_singleton_self _)
    (by rw [duties_eq x (tgt c t) (.rcv t), dut_rcv ((incoming_tgt c t).trans ha)]; exact Finset.mem_singleton_self _)
    () () (amt t) hamt' (amount_eq x c (.snd t) 0) (amount_eq x (tgt c t) (.rcv t) 0) (owed c (n + 1)) rfl (W := W)
    (by rw [payload_eq x c (.snd t)]; exact (Entails.of_eq hres.symm : _ ⊢ srcRes x c t))
    (by
      rw [payload_eq x (tgt c t) (.rcv t)]
      show _ ⊢ rcvPay x (tgt c t) t
      exact Entails.of_eq (hdown f))) $$ [Hsrc Hd HO Hts Htr]
  · isplitr; · iexact HIs
    isplitr; · iexact HIr
    isplitl [Hsrc]; · iexact Hsrc
    isplitl [Hd]; · iexact Hd
    isplitl [HO]; · iexact HO
    isplitl [Hts]; · iexact Hts
    isplitr; · iexact Hrs
    isplitl [Htr]; · iexact Htr
    iexact Hrr
  iintro ⟨Hcr, HO⟩
  iapply hk
  isplitr; · iexact Hrecs
  isplitr; · iexact Hlev
  isplitl [HR]; · iexact HR
  isplitl [HO]; · iexists W; iexact HO
  isplitl [Hcr Hat Hout]
  · isplitl [Hcr Hat]
    · unfold flying; isplitl [Hcr]; · iexact Hcr
      iexact Hat
    · iexact Hout
  isplitl [Hhand]; · iexact Hhand
  iexact Hinn

/-- A device's own rows sent from its argument. -/
theorem step_send_own {c : Dev nD} {K : Dev nD × Cell → ℕ} {R : sProp 𝕄} {n : ℕ} {α : Type} {Q : α → sProp 𝕄}
    {k : PUnit → Prog (TpuEff nD τ sig (Elt F) Λ₀ .tc) α}
    {off : Fin 2 → ℕ} {inb : ∀ a, off a + S4096x1024.size a ≤ S65536x1024.size a} {d : Dev nD} {sS sR : DmaSem sig}
    {hsc : (outM.slice (Rect.unit (s := S65536x1024) off S4096x1024.size inb) (fun _ => rfl)).view.ref.isScScratch = false}
    {hsrc : xM.view.WordExact} {hdst : (outM.slice (Rect.unit (s := S65536x1024) off S4096x1024.size inb) (fun _ => rfl)).view.WordExact}
    {hsem : DmaTarget.Typed .vmem (.dma sR) (.remote (Dev.tc d : Thread nD τ) (outM.slice (Rect.unit (s := S65536x1024) off S4096x1024.size inb) (fun _ => rfl)) (.dma sS) hsc)}
    (t : Xfer) (ha : active c t = true) (hp : parent t = none) (hoff : off = ![lo c .full, 0])
    (hd : d = tgt c t) (hS : sS = sndD t) (hR : sR = rcvD t) (hn : pos (.send t) = n)
    (hk : Inv x K c R (n + 1) ⊢ WP c (k ⟨⟩) Q) :
    Inv x K c R n ⊢ WP c (.op (.enqueueDma xM (.remote (Dev.tc d : Thread nD τ) (outM.slice (Rect.unit (s := S65536x1024) off S4096x1024.size inb) (fun _ => rfl)) (.dma sS) hsc) (.dma sR) hsrc hdst hsem) k) Q := by
  have ho : origin c t = c := origin_root c t hp
  have hpt : part t = .full := part_root t hp
  refine step_send (srcM := xM) t ha (x c) ?_ ?_ ?_ ?_ hd hS hR hn hk
  · unfold srcRes; rw [hp]; rfl
  · rw [ho, hpt]; exact set_full off inb c hoff
  · intro f; rw [ho, hpt]; exact write_own x c off inb hoff f
  · exact (amt_full hpt).symm

/-- Rows passed on, all of a block's -/
theorem step_send_full {c : Dev nD} {K : Dev nD × Cell → ℕ} {R : sProp 𝕄} {n : ℕ} {α : Type} {Q : α → sProp 𝕄}
    {k : PUnit → Prog (TpuEff nD τ sig (Elt F) Λ₀ .tc) α}
    {off : Fin 2 → ℕ} {inb : ∀ a, off a + S4096x1024.size a ≤ S65536x1024.size a} {d : Dev nD} {sS sR : DmaSem sig}
    {hsc : (outM.slice (Rect.unit (s := S65536x1024) off S4096x1024.size inb) (fun _ => rfl)).view.ref.isScScratch = false}
    {hsrc hdst : (outM.slice (Rect.unit (s := S65536x1024) off S4096x1024.size inb) (fun _ => rfl)).view.WordExact}
    {hsem : DmaTarget.Typed .hbm (.dma sR) (.remote (Dev.tc d : Thread nD τ) (outM.slice (Rect.unit (s := S65536x1024) off S4096x1024.size inb) (fun _ => rfl)) (.dma sS) hsc)}
    (t p : Xfer) (ha : active c t = true) (hp : parent t = some p) (hpt : part t = .full) (hoff : off = ![lo (origin c t) .full, 0])
    (hd : d = tgt c t) (hS : sS = sndD t) (hR : sR = rcvD t) (hn : pos (.send t) = n)
    (hk : Inv x K c R (n + 1) ⊢ WP c (k ⟨⟩) Q) :
    Inv x K c R n ⊢ WP c (.op (.enqueueDma (outM.slice (Rect.unit (s := S65536x1024) off S4096x1024.size inb) (fun _ => rfl)) (.remote (Dev.tc d : Thread nD τ) (outM.slice (Rect.unit (s := S65536x1024) off S4096x1024.size inb) (fun _ => rfl)) (.dma sS) hsc) (.dma sR) hsrc hdst hsem) k) Q := by
  have hset : (outM.slice (Rect.unit (s := S65536x1024) off S4096x1024.size inb) (fun _ => rfl)).view.set = reg (origin c t) (part t) := by
    rw [hpt]; exact set_full off inb _ hoff
  refine step_send (srcM := (outM.slice (Rect.unit (s := S65536x1024) off S4096x1024.size inb) (fun _ => rfl))) t ha (gath x) ?_ hset ?_ ?_ hd hS hR hn hk
  · rw [hset]; unfold srcRes; rw [hp]; rfl
  · intro f
    have hw := write_read (F := F) (outM.slice (Rect.unit (s := S65536x1024) off S4096x1024.size inb) (fun _ => rfl)).view f (gath x)
    rw [hset] at hw
    exact hw
  · exact (amt_full hpt).symm

/-- and half of them. -/
theorem step_send_half {c : Dev nD} {K : Dev nD × Cell → ℕ} {R : sProp 𝕄} {n : ℕ} {α : Type} {Q : α → sProp 𝕄}
    {k : PUnit → Prog (TpuEff nD τ sig (Elt F) Λ₀ .tc) α}
    {off : Fin 2 → ℕ} {inb : ∀ a, off a + S2048x1024.size a ≤ S65536x1024.size a} {d : Dev nD} {sS sR : DmaSem sig}
    {hsc : (outM.slice (Rect.unit (s := S65536x1024) off S2048x1024.size inb) (fun _ => rfl)).view.ref.isScScratch = false}
    {hsrc hdst : (outM.slice (Rect.unit (s := S65536x1024) off S2048x1024.size inb) (fun _ => rfl)).view.WordExact}
    {hsem : DmaTarget.Typed .hbm (.dma sR) (.remote (Dev.tc d : Thread nD τ) (outM.slice (Rect.unit (s := S65536x1024) off S2048x1024.size inb) (fun _ => rfl)) (.dma sS) hsc)}
    (t p : Xfer) (ha : active c t = true) (hp : parent t = some p) (hpt : part t ≠ .full) (hoff : off = ![lo (origin c t) (part t), 0])
    (hd : d = tgt c t) (hS : sS = sndD t) (hR : sR = rcvD t) (hn : pos (.send t) = n)
    (hk : Inv x K c R (n + 1) ⊢ WP c (k ⟨⟩) Q) :
    Inv x K c R n ⊢ WP c (.op (.enqueueDma (outM.slice (Rect.unit (s := S65536x1024) off S2048x1024.size inb) (fun _ => rfl)) (.remote (Dev.tc d : Thread nD τ) (outM.slice (Rect.unit (s := S65536x1024) off S2048x1024.size inb) (fun _ => rfl)) (.dma sS) hsc) (.dma sR) hsrc hdst hsem) k) Q := by
  have hset : (outM.slice (Rect.unit (s := S65536x1024) off S2048x1024.size inb) (fun _ => rfl)).view.set = reg (origin c t) (part t) :=
    set_half off inb _ _ hpt hoff
  refine step_send (srcM := (outM.slice (Rect.unit (s := S65536x1024) off S2048x1024.size inb) (fun _ => rfl))) t ha (gath x) ?_ hset ?_ ?_ hd hS hR hn hk
  · rw [hset]; unfold srcRes; rw [hp]; rfl
  · intro f
    have hw := write_read (F := F) (outM.slice (Rect.unit (s := S65536x1024) off S2048x1024.size inb) (fun _ => rfl)).view f (gath x)
    rw [hset] at hw
    exact hw
  · exact (amt_half hpt).symm

/-- The wait for an arrival. -/
theorem step_recv {c : Dev nD} {K : Dev nD × Cell → ℕ} {R : sProp 𝕄} {n : ℕ} {α : Type} {Q : α → sProp 𝕄}
    {k : PUnit → Prog (TpuEff nD τ sig (Elt F) Λ₀ .tc) α}
    {sp sp' : Space} {s : Shape} {srcM : Memref sig .tc sp s .bf16} {dstM : Memref sig .tc sp' s .bf16} {sm : DmaSem sig}
    {h1 : srcM.view.WordExact} {h2 : dstM.view.WordExact}
    (t : Xfer) (hi : incoming c t = true) (hamt : dstM.view.dmaCredit = amt t) (hsm : sm = rcvD t) (hn : pos (.recv t) = n)
    (hk : Inv x K c R (n + 1) ⊢ WP c (k ⟨⟩) Q) :
    Inv x K c R n ⊢ WP c (.op (.waitDma2 sm srcM dstM h1 h2) k) Q := by
  subst hsm
  unfold Inv WP at hk ⊢
  rw [handS_recv x hn hi, innS_recvd x hn hi] at hk
  rw [outS_recv hn, innS_recv x hn hi]
  have hexp : 0 + amt t = (sched x).expect ((c : Thread nD τ), .dma (rcvD t)) 0 := by
    have h := expect_eq x c (.rcv t)
    rw [dut_rcv hi, Finset.card_singleton, one_mul] at h
    rw [zero_add]; exact h.symm
  have hrest : (bigSep ((sched x).duties ((c : Thread nD τ), .dma (rcvD t)) 0 \ ∅) fun d => (sched x).payload ((c : Thread nD τ), .dma (rcvD t)) 0 d)
      = iprop(leftover x c t ∗ bigSep (kids t) fun t' => srcRes x c t') := by
    refine (rest_eq x c (.rcv t)).trans ?_
    rw [dut_rcv hi, bigSep_singleton]; exact rcvPay_split x c t
  unfold waiting
  iintro ⟨#Hrecs, #Hlev, HR, ⟨%W, HO⟩, Hout, Hhand, ⟨⟨Hcr, Hat⟩, Hinn⟩⟩
  ihave #Hr := (recs_at x K c (.rcv t)) $$ Hrecs
  icases Hr with ⟨#HIr, -⟩
  iapply (Rounds.wp_wait_rest_token 𝒱₀ ER (sched x) (c : Thread nD τ) none (κ := K (c, .rcv t)) (k' := amt t)
      (by rw [← hamt]; exact wpE_waitDma2_eq 𝒱₀ (c : Thread nD τ) none Set.univ) (Set.mem_univ _) () (O := owed c n) (W := W) (R := 0) (m := 0) (T := ∅)
      hexp) $$ [Hcr HO Hat]
  · isplitr; · iexact HIr
    isplitl [Hcr]; · iexact Hcr
    isplitl [HO]; · iexact HO
    isplitr
    · iapply (mayWait c n (.dma (rcvD t)) fun t' ht' => by
        rw [lv_rcv]
        by_contra hl
        have := lvl_lt t t' (Nat.le_of_not_lt hl)
        have := (Finset.mem_filter.mp ht').2
        omega)
      iexact Hlev
    iexact Hat
  iintro ⟨HO, Hat, -, Hpay⟩
  ihave Hp := (Entails.of_eq hrest) $$ Hpay
  icases Hp with ⟨Hleft, Hkids⟩
  iapply hk
  isplitr; · iexact Hrecs
  isplitr; · iexact Hlev
  isplitl [HR]; · iexact HR
  isplitl [HO]
  · rw [owed_recv hn]; iexists _; iexact HO
  isplitl [Hout]; · iexact Hout
  isplitl [Hhand Hkids]
  · isplitl [Hkids]; · iexact Hkids
    iexact Hhand
  isplitl [Hat Hleft]
  · unfold arrived; isplitl [Hat]; · iexact Hat
    iexact Hleft
  iexact Hinn

/-- The wait for a copy to have left. -/
theorem step_done {c : Dev nD} {K : Dev nD × Cell → ℕ} {R : sProp 𝕄} {n : ℕ} {α : Type} {Q : α → sProp 𝕄}
    {k : PUnit → Prog (TpuEff nD τ sig (Elt F) Λ₀ .tc) α}
    {sp sp' : Space} {s : Shape} {srcM : Memref sig .tc sp s .bf16} {dstM : Memref sig .tc sp' s .bf16} {sm : DmaSem sig}
    {h1 : srcM.view.WordExact} {h2 : dstM.view.WordExact}
    (t : Xfer) (ha : active c t = true) (hamt : dstM.view.dmaCredit = amt t) (hsm : sm = sndD t) (hn : pos (.done t) = n)
    (hk : Inv x K c R (n + 1) ⊢ WP c (k ⟨⟩) Q) :
    Inv x K c R n ⊢ WP c (.op (.waitDma2 sm srcM dstM h1 h2) k) Q := by
  subst hsm
  unfold Inv WP at hk ⊢
  rw [outS_left hn ha, handS_left x hn ha] at hk
  rw [outS_done hn ha, handS_done x hn ha, innS_done x hn]
  have hexp : 0 + amt t = (sched x).expect ((c : Thread nD τ), .dma (sndD t)) 0 := by
    have h := expect_eq x c (.snd t)
    rw [dut_snd ha, Finset.card_singleton, one_mul] at h
    rw [zero_add]; exact h.symm
  have hrest : (bigSep ((sched x).duties ((c : Thread nD τ), .dma (sndD t)) 0 \ ∅) fun d => (sched x).payload ((c : Thread nD τ), .dma (sndD t)) 0 d)
      = (srcRes x c t : sProp 𝕄) := by
    refine (rest_eq x c (.snd t)).trans ?_
    rw [dut_snd ha, bigSep_singleton]; rfl
  unfold flying
  iintro ⟨#Hrecs, #Hlev, HR, ⟨%W, HO⟩, ⟨⟨Hcr, Hat⟩, Hout⟩, Hhand, Hinn⟩
  ihave #Hs := (recs_at x K c (.snd t)) $$ Hrecs
  icases Hs with ⟨#HIs, -⟩
  iapply (Rounds.wp_wait_rest_token 𝒱₀ ER (sched x) (c : Thread nD τ) none (κ := K (c, .snd t)) (k' := amt t)
      (by rw [← hamt]; exact wpE_waitDma2_eq 𝒱₀ (c : Thread nD τ) none Set.univ) (Set.mem_univ _) () (O := owed c n) (W := W) (R := 0) (m := 0) (T := ∅)
      hexp) $$ [Hcr HO Hat]
  · isplitr; · iexact HIs
    isplitl [Hcr]; · iexact Hcr
    isplitl [HO]; · iexact HO
    isplitr
    · iapply (mayWait c n (.dma (sndD t)) fun t' ht' => by rw [lv_snd]; exact Nat.zero_lt_of_lt (lvl_pos t'))
      iexact Hlev
    iexact Hat
  iintro ⟨HO, Hat, -, Hpay⟩
  ihave Hp := (Entails.of_eq hrest) $$ Hpay
  iapply hk
  isplitr; · iexact Hrecs
  isplitr; · iexact Hlev
  isplitl [HR]; · iexact HR
  isplitl [HO]
  · rw [owed_done hn]; iexists _; iexact HO
  isplitl [Hat Hout]
  · isplitl [Hat]; · unfold flown; iexact Hat
    iexact Hout
  isplitl [Hp Hhand]
  · isplitl [Hp]; · iexact Hp
    iexact Hhand
  iexact Hinn

end

end Cert.AllGather
-- ==== Proof.Walk.lean ====
/-
# Walking the program

The steps again, with what the program's own arithmetic gives: under a condition on the device the printed offset and
the printed device are the ones the plan names. Those facts range over sixteen devices and are decided.
-/
module

public import proofs.«01_k».proof.Proof.Steps

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program that has ended -/
theorem w_ret {c : Dev nD} {α : Type} {a : α} {P : sProp 𝕄} {Q : α → sProp 𝕄} (h : P ⊢ Q a) :
    P ⊢ WP (F := F) c (.ret a) Q := by
  unfold WP
  rw [wp_ret]
  exact h.trans fupd_intro

/-- two programs one after the other -/
theorem w_bind {c : Dev nD} {α β : Type} {p : Prog (TpuEff nD τ sig (Elt F) Λ₀ .tc) α} {k : α → Prog (TpuEff nD τ sig (Elt F) Λ₀ .tc) β}
    {P : sProp 𝕄} {Q : β → sProp 𝕄} (h : P ⊢ WP c p fun a => WP c (k a) Q) : P ⊢ WP c (p >>= k) Q := by
  unfold WP at h ⊢
  rw [wp_bind]
  exact h

/-- a program that goes on one way or another. -/
theorem w_if {c : Dev nD} {α : Type} {b : Prop} [Decidable b] {p : b → Prog (TpuEff nD τ sig (Elt F) Λ₀ .tc) α}
    {p' : ¬ b → Prog (TpuEff nD τ sig (Elt F) Λ₀ .tc) α} {P : sProp 𝕄} {Q : α → sProp 𝕄} (h : ∀ hb : b, P ⊢ WP c (p hb) Q)
    (h' : ∀ hb : ¬ b, P ⊢ WP c (p' hb) Q) : P ⊢ WP c (if hb : b then p hb else p' hb) Q := by
  by_cases hb : b
  · rw [dif_pos hb]; exact h hb
  · rw [dif_neg hb]; exact h' hb

/-- A printed condition holds, does not hold; two hold; the first holds and the second does not; no condition. -/
abbrev Y (f : Dev nD → BitVec 1) (c : Dev nD) : Prop := f c = 1#1
abbrev No (f : Dev nD → BitVec 1) (c : Dev nD) : Prop := ¬ f c = 1#1
abbrev YY (f g : Dev nD → BitVec 1) (c : Dev nD) : Prop := f c = 1#1 ∧ g c = 1#1
abbrev YN (f g : Dev nD → BitVec 1) (c : Dev nD) : Prop := f c = 1#1 ∧ ¬ g c = 1#1
abbrev Any (c : Dev nD) : Prop := True

section
variable {x : Dev nD → Blk F}

/-- Steps that the device does not take. -/
theorem w_skip {c : Dev nD} {K : Dev nD × Cell → ℕ} {R : sProp 𝕄} {n : ℕ} {Q : sProp 𝕄} (P : Dev nD → Prop) (hP : P c) (k : ℕ)
    (hk : Inv x K c R (n + k) ⊢ Q)
    (hs : ∀ c, P c → ∀ s ∈ (steps.drop n).take k, takes c s = false := by decide +kernel) (hn : n + k ≤ 102 := by decide) :
    Inv x K c R n ⊢ Q := by
  rw [Inv_skips x K R k (hs c hP) hn]; exact hk

theorem w_own {c : Dev nD} {K : Dev nD × Cell → ℕ} {R : sProp 𝕄} {n : ℕ} {α : Type} {Q : α → sProp 𝕄}
    {k : PUnit → Prog (TpuEff nD τ sig (Elt F) Λ₀ .tc) α} (P : Dev nD → Prop) (hP : P c)
    {off : Dev nD → Fin 2 → ℕ} {inb : ∀ a, off c a + S4096x1024.size a ≤ S65536x1024.size a} {dv : Dev nD → ℕ} {hdv : dv c < nD} {sS sR : DmaSem sig}
    {hsc : (outM.slice (Rect.unit (s := S65536x1024) (off c) S4096x1024.size inb) (fun _ => rfl)).view.ref.isScScratch = false}
    {hsrc : xM.view.WordExact} {hdst : (outM.slice (Rect.unit (s := S65536x1024) (off c) S4096x1024.size inb) (fun _ => rfl)).view.WordExact}
    {hsem : DmaTarget.Typed .vmem (.dma sR) (.remote (Dev.tc (⟨dv c, hdv⟩ : Dev nD) : Thread nD τ) (outM.slice (Rect.unit (s := S65536x1024) (off c) S4096x1024.size inb) (fun _ => rfl)) (.dma sS) hsc)}
    (t : Xfer)
    (hk : Inv x K c R (n + 1) ⊢ WP c (k ⟨⟩) Q)
    (ha : ∀ c, P c → active c t = true := by decide +kernel) (hp : parent t = none := by rfl)
    (hoff : ∀ c, P c → off c = ![lo c .full, 0] := by decide +kernel)
    (hd : ∀ c, P c → dv c = (tgt c t).val := by decide +kernel) (hS : sS = sndD t := by rfl) (hR : sR = rcvD t := by rfl)
    (hn : pos (.send t) = n := by decide +kernel) :
    Inv x K c R n ⊢ WP c (.op (.enqueueDma xM (.remote (Dev.tc (⟨dv c, hdv⟩ : Dev nD) : Thread nD τ) (outM.slice (Rect.unit (s := S65536x1024) (off c) S4096x1024.size inb) (fun _ => rfl)) (.dma sS) hsc) (.dma sR) hsrc hdst hsem) k) Q :=
  step_send_own t (ha c hP) hp (hoff c hP) (Fin.ext (hd c hP)) hS hR hn hk

theorem w_full {c : Dev nD} {K : Dev nD × Cell → ℕ} {R : sProp 𝕄} {n : ℕ} {α : Type} {Q : α → sProp 𝕄}
    {k : PUnit → Prog (TpuEff nD τ sig (Elt F) Λ₀ .tc) α} (P : Dev nD → Prop) (hP : P c)
    {off : Dev nD → Fin 2 → ℕ} {inb : ∀ a, off c a + S4096x1024.size a ≤ S65536x1024.size a} {dv : Dev nD → ℕ} {hdv : dv c < nD} {sS sR : DmaSem sig}
    {hsc : (outM.slice (Rect.unit (s := S65536x1024) (off c) S4096x1024.size inb) (fun _ => rfl)).view.ref.isScScratch = false}
    {hsrc hdst : (outM.slice (Rect.unit (s := S65536x1024) (off c) S4096x1024.size inb) (fun _ => rfl)).view.WordExact}
    {hsem : DmaTarget.Typed .hbm (.dma sR) (.remote (Dev.tc (⟨dv c, hdv⟩ : Dev nD) : Thread nD τ) (outM.slice (Rect.unit (s := S65536x1024) (off c) S4096x1024.size inb) (fun _ => rfl)) (.dma sS) hsc)}
    (t p : Xfer)
    (hk : Inv x K c R (n + 1) ⊢ WP c (k ⟨⟩) Q)
    (ha : ∀ c, P c → active c t = true := by decide +kernel) (hp : parent t = some p := by rfl) (hpt : part t = .full := by rfl)
    (hoff : ∀ c, P c → off c = ![lo (origin c t) .full, 0] := by decide +kernel)
    (hd : ∀ c, P c → dv c = (tgt c t).val := by decide +kernel) (hS : sS = sndD t := by rfl) (hR : sR = rcvD t := by rfl)
    (hn : pos (.send t) = n := by decide +kernel) :
    Inv x K c R n ⊢ WP c (.op (.enqueueDma (outM.slice (Rect.unit (s := S65536x1024) (off c) S4096x1024.size inb) (fun _ => rfl)) (.remote (Dev.tc (⟨dv c, hdv⟩ : Dev nD) : Thread nD τ) (outM.slice (Rect.unit (s := S65536x1024) (off c) S4096x1024.size inb) (fun _ => rfl)) (.dma sS) hsc) (.dma sR) hsrc hdst hsem) k) Q :=
  step_send_full t p (ha c hP) hp hpt (hoff c hP) (Fin.ext (hd c hP)) hS hR hn hk

theorem w_half {c : Dev nD} {K : Dev nD × Cell → ℕ} {R : sProp 𝕄} {n : ℕ} {α : Type} {Q : α → sProp 𝕄}
    {k : PUnit → Prog (TpuEff nD τ sig (Elt F) Λ₀ .tc) α} (P : Dev nD → Prop) (hP : P c)
    {off : Dev nD → Fin 2 → ℕ} {inb : ∀ a, off c a + S2048x1024.size a ≤ S65536x1024.size a} {dv : Dev nD → ℕ} {hdv : dv c < nD} {sS sR : DmaSem sig}
    {hsc : (outM.slice (Rect.unit (s := S65536x1024) (off c) S2048x1024.size inb) (fun _ => rfl)).view.ref.isScScratch = false}
    {hsrc hdst : (outM.slice (Rect.unit (s := S65536x1024) (off c) S2048x1024.size inb) (fun _ => rfl)).view.WordExact}
    {hsem : DmaTarget.Typed .hbm (.dma sR) (.remote (Dev.tc (⟨dv c, hdv⟩ : Dev nD) : Thread nD τ) (outM.slice (Rect.unit (s := S65536x1024) (off c) S2048x1024.size inb) (fun _ => rfl)) (.dma sS) hsc)}
    (t p : Xfer)
    (hk : Inv x K c R (n + 1) ⊢ WP c (k ⟨⟩) Q)
    (ha : ∀ c, P c → active c t = true := by decide +kernel) (hp : parent t = some p := by rfl) (hpt : part t ≠ .full := by decide)
    (hoff : ∀ c, P c → off c = ![lo (origin c t) (part t), 0] := by decide +kernel)
    (hd : ∀ c, P c → dv c = (tgt c t).val := by decide +kernel) (hS : sS = sndD t := by rfl) (hR : sR = rcvD t := by rfl)
    (hn : pos (.send t) = n := by decide +kernel) :
    Inv x K c R n ⊢ WP c (.op (.enqueueDma (outM.slice (Rect.unit (s := S65536x1024) (off c) S2048x1024.size inb) (fun _ => rfl)) (.remote (Dev.tc (⟨dv c, hdv⟩ : Dev nD) : Thread nD τ) (outM.slice (Rect.unit (s := S65536x1024) (off c) S2048x1024.size inb) (fun _ => rfl)) (.dma sS) hsc) (.dma sR) hsrc hdst hsem) k) Q :=
  step_send_half t p (ha c hP) hp hpt (hoff c hP) (Fin.ext (hd c hP)) hS hR hn hk

theorem w_recv {c : Dev nD} {K : Dev nD × Cell → ℕ} {R : sProp 𝕄} {n : ℕ} {α : Type} {Q : α → sProp 𝕄}
    {k : PUnit → Prog (TpuEff nD τ sig (Elt F) Λ₀ .tc) α} (P : Dev nD → Prop) (hP : P c)
    {sp sp' : Space} {s : Shape} {srcM : Memref sig .tc sp s .bf16} {dstM : Memref sig .tc sp' s .bf16} {sm : DmaSem sig}
    {h1 : srcM.view.WordExact} {h2 : dstM.view.WordExact} (t : Xfer)
    (hk : Inv x K c R (n + 1) ⊢ WP c (k ⟨⟩) Q)
    (hi : ∀ c, P c → incoming c t = true := by decide +kernel)
    (hamt : dstM.view.dmaCredit = amt t := by rfl) (hsm : sm = rcvD t := by rfl) (hn : pos (.recv t) = n := by decide +kernel) :
    Inv x K c R n ⊢ WP c (.op (.waitDma2 sm srcM dstM h1 h2) k) Q :=
  step_recv t (hi c hP) hamt hsm hn hk

theorem w_done {c : Dev nD} {K : Dev nD × Cell → ℕ} {R : sProp 𝕄} {n : ℕ} {α : Type} {Q : α → sProp 𝕄}
    {k : PUnit → Prog (TpuEff nD τ sig (Elt F) Λ₀ .tc) α} (P : Dev nD → Prop) (hP : P c)
    {sp sp' : Space} {s : Shape} {srcM : Memref sig .tc sp s .bf16} {dstM : Memref sig .tc sp' s .bf16} {sm : DmaSem sig}
    {h1 : srcM.view.WordExact} {h2 : dstM.view.WordExact} (t : Xfer)
    (hk : Inv x K c R (n + 1) ⊢ WP c (k ⟨⟩) Q)
    (hi : ∀ c, P c → active c t = true := by decide +kernel)
    (hamt : dstM.view.dmaCredit = amt t := by rfl) (hsm : sm = sndD t := by rfl) (hn : pos (.done t) = n := by decide +kernel) :
    Inv x K c R n ⊢ WP c (.op (.waitDma2 sm srcM dstM h1 h2) k) Q :=
  step_done t (hi c hP) hamt hsm hn hk

end

end Cert.AllGather
-- ==== Proof.Parts.lean ====
/-
# The parts of the program
-/
module

public import proofs.«01_k».proof.Proof.Walk

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {x : Dev nD → Blk F} {c : Dev nD} {K : Dev nD × Cell → ℕ}

/-! ## A chain's rows passed on up and down, and to the x-neighbour -/

theorem part1 (v2 v3 v7 v10 v11 : BitVec 32) (h : k0_cond5 c = 1#1) {R : sProp 𝕄} {Q : PUnit → sProp 𝕄} (hk : Inv x K c R 7 ⊢ Q ⟨⟩) :
    Inv x K c R 4 ⊢ WP c (k0_part1 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v2 v3 v7 v10 v11 h) Q := by
  simp only [k0_part1_eq_skeleton]
  unfold k0_part1_skel
  simp -zetaHave only [Prog.lift, Prog.bind_op, Prog.bind_ret, Prog.pure_eq_ret]
  refine w_recv (Y k0_cond5) h (.up 0) ?_
  extract_lets jp
  have hjp : Inv x K c R 6 ⊢ WP c (jp ⟨⟩) Q := w_full (Y k0_cond5) h (.fxu 0) (.up 0) (w_ret hk)
  clear_value jp
  refine w_if (fun h' => ?_) fun h' => ?_
  · exact w_full (YY k0_cond5 k0_cond6) ⟨h, h'⟩ (.up 1) (.up 0) hjp
  · exact w_skip (YN k0_cond5 k0_cond6) ⟨h, h'⟩ 1 hjp

theorem part2 (v2 v3 v7 v10 v12 : BitVec 32) (h : k0_cond7 c = 1#1) {R : sProp 𝕄} {Q : PUnit → sProp 𝕄} (hk : Inv x K c R 11 ⊢ Q ⟨⟩) :
    Inv x K c R 8 ⊢ WP c (k0_part2 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v2 v3 v7 v10 v12 h) Q := by
  simp only [k0_part2_eq_skeleton]
  unfold k0_part2_skel
  simp -zetaHave only [Prog.lift, Prog.bind_op, Prog.bind_ret, Prog.pure_eq_ret]
  refine w_recv (Y k0_cond7) h (.dn 0) ?_
  extract_lets jp
  have hjp : Inv x K c R 10 ⊢ WP c (jp ⟨⟩) Q := w_full (Y k0_cond7) h (.fxd 0) (.dn 0) (w_ret hk)
  clear_value jp
  refine w_if (fun h' => ?_) fun h' => ?_
  · exact w_full (YY k0_cond7 k0_cond8) ⟨h, h'⟩ (.dn 1) (.dn 0) hjp
  · exact w_skip (YN k0_cond7 k0_cond8) ⟨h, h'⟩ 1 hjp

theorem part3 (v2 v3 v7 v10 v11 : BitVec 32) (h : k0_cond9 c = 1#1) {R : sProp 𝕄} {Q : PUnit → sProp 𝕄} (hk : Inv x K c R 15 ⊢ Q ⟨⟩) :
    Inv x K c R 12 ⊢ WP c (k0_part3 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v2 v3 v7 v10 v11 h) Q := by
  simp only [k0_part3_eq_skeleton]
  unfold k0_part3_skel
  simp -zetaHave only [Prog.lift, Prog.bind_op, Prog.bind_ret, Prog.pure_eq_ret]
  refine w_recv (Y k0_cond9) h (.up 1) ?_
  extract_lets jp
  have hjp : Inv x K c R 14 ⊢ WP c (jp ⟨⟩) Q := w_full (Y k0_cond9) h (.fxu 1) (.up 1) (w_ret hk)
  clear_value jp
  refine w_if (fun h' => ?_) fun h' => ?_
  · exact w_full (YY k0_cond9 k0_cond10) ⟨h, h'⟩ (.up 2) (.up 1) hjp
  · exact w_skip (YN k0_cond9 k0_cond10) ⟨h, h'⟩ 1 hjp

theorem part4 (v2 v3 v7 v10 v12 : BitVec 32) (h : k0_cond11 c = 1#1) {R : sProp 𝕄} {Q : PUnit → sProp 𝕄} (hk : Inv x K c R 19 ⊢ Q ⟨⟩) :
    Inv x K c R 16 ⊢ WP c (k0_part4 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v2 v3 v7 v10 v12 h) Q := by
  simp only [k0_part4_eq_skeleton]
  unfold k0_part4_skel
  simp -zetaHave only [Prog.lift, Prog.bind_op, Prog.bind_ret, Prog.pure_eq_ret]
  refine w_recv (Y k0_cond11) h (.dn 1) ?_
  extract_lets jp
  have hjp : Inv x K c R 18 ⊢ WP c (jp ⟨⟩) Q := w_full (Y k0_cond11) h (.fxd 1) (.dn 1) (w_ret hk)
  clear_value jp
  refine w_if (fun h' => ?_) fun h' => ?_
  · exact w_full (YY k0_cond11 k0_cond12) ⟨h, h'⟩ (.dn 2) (.dn 1) hjp
  · exact w_skip (YN k0_cond11 k0_cond12) ⟨h, h'⟩ 1 hjp

/-! ## The halves passed on in the plane -/

theorem part5 (v7 v10 : BitVec 32) (h : k0_cond15 c = 1#1) {R : sProp 𝕄} {Q : _ → sProp 𝕄} (hk : ∀ r, Inv x K c R 33 ⊢ Q r) :
    Inv x K c R 30 ⊢ WP c (k0_part5 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v7 v10 h) Q := by
  simp only [k0_part5_eq_skeleton]
  unfold k0_part5_skel
  simp -zetaHave only [Prog.lift, Prog.bind_op, Prog.bind_ret, Prog.pure_eq_ret]
  refine w_recv (Y k0_cond15) h (.fxu 0) ?_
  refine w_half (Y k0_cond15) h (.gyu 0) (.fxu 0) ?_
  exact w_recv (Y k0_cond15) h (.fyu 0) (w_ret (hk _))

theorem part6 (v7 v10 : BitVec 32) (h : k0_cond16 c = 1#1) {R : sProp 𝕄} {Q : _ → sProp 𝕄} (hk : ∀ r, Inv x K c R 37 ⊢ Q r) :
    Inv x K c R 34 ⊢ WP c (k0_part6 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v7 v10 h) Q := by
  simp only [k0_part6_eq_skeleton]
  unfold k0_part6_skel
  simp -zetaHave only [Prog.lift, Prog.bind_op, Prog.bind_ret, Prog.pure_eq_ret]
  refine w_recv (Y k0_cond16) h (.fxd 0) ?_
  refine w_half (Y k0_cond16) h (.gyd 0) (.fxd 0) ?_
  exact w_recv (Y k0_cond16) h (.fyd 0) (w_ret (hk _))

theorem part7 (v7 v10 : BitVec 32) (h : k0_cond17 c = 1#1) {R : sProp 𝕄} {Q : _ → sProp 𝕄} (hk : ∀ r, Inv x K c R 41 ⊢ Q r) :
    Inv x K c R 38 ⊢ WP c (k0_part7 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v7 v10 h) Q := by
  simp only [k0_part7_eq_skeleton]
  unfold k0_part7_skel
  simp -zetaHave only [Prog.lift, Prog.bind_op, Prog.bind_ret, Prog.pure_eq_ret]
  refine w_recv (Y k0_cond17) h (.fxu 1) ?_
  refine w_half (Y k0_cond17) h (.gyu 1) (.fxu 1) ?_
  exact w_recv (Y k0_cond17) h (.fyu 1) (w_ret (hk _))

theorem part8 (v7 v10 : BitVec 32) (h : k0_cond18 c = 1#1) {R : sProp 𝕄} {Q : _ → sProp 𝕄} (hk : ∀ r, Inv x K c R 45 ⊢ Q r) :
    Inv x K c R 42 ⊢ WP c (k0_part8 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v7 v10 h) Q := by
  simp only [k0_part8_eq_skeleton]
  unfold k0_part8_skel
  simp -zetaHave only [Prog.lift, Prog.bind_op, Prog.bind_ret, Prog.pure_eq_ret]
  refine w_recv (Y k0_cond18) h (.fxd 1) ?_
  refine w_half (Y k0_cond18) h (.gyd 1) (.fxd 1) ?_
  exact w_recv (Y k0_cond18) h (.fyd 1) (w_ret (hk _))

theorem part9 (v7 v10 : BitVec 32) (h : k0_cond19 c = 1#1) {R : sProp 𝕄} {Q : _ → sProp 𝕄} (hk : ∀ r, Inv x K c R 49 ⊢ Q r) :
    Inv x K c R 46 ⊢ WP c (k0_part9 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v7 v10 h) Q := by
  simp only [k0_part9_eq_skeleton]
  unfold k0_part9_skel
  simp -zetaHave only [Prog.lift, Prog.bind_op, Prog.bind_ret, Prog.pure_eq_ret]
  refine w_recv (Y k0_cond19) h (.fxu 2) ?_
  refine w_half (Y k0_cond19) h (.gyu 2) (.fxu 2) ?_
  exact w_recv (Y k0_cond19) h (.fyu 2) (w_ret (hk _))

theorem part10 (v7 v10 : BitVec 32) (h : k0_cond20 c = 1#1) {R : sProp 𝕄} {Q : _ → sProp 𝕄} (hk : ∀ r, Inv x K c R 53 ⊢ Q r) :
    Inv x K c R 50 ⊢ WP c (k0_part10 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v7 v10 h) Q := by
  simp only [k0_part10_eq_skeleton]
  unfold k0_part10_skel
  simp -zetaHave only [Prog.lift, Prog.bind_op, Prog.bind_ret, Prog.pure_eq_ret]
  refine w_recv (Y k0_cond20) h (.fxd 2) ?_
  refine w_half (Y k0_cond20) h (.gyd 2) (.fxd 2) ?_
  exact w_recv (Y k0_cond20) h (.fyd 2) (w_ret (hk _))

/-! ## The copies that must have left -/

theorem part11 (v2 v3 : BitVec 32) (h : k0_cond29 c = 1#1) {R : sProp 𝕄} {Q : _ → sProp 𝕄} (hk : ∀ r, Inv x K c R 78 ⊢ Q r) :
    Inv x K c R 74 ⊢ WP c (k0_part11 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v2 v3 h) Q := by
  simp only [k0_part11_eq_skeleton]
  unfold k0_part11_skel
  simp -zetaHave only [Prog.lift, Prog.bind_op, Prog.bind_ret, Prog.pure_eq_ret]
  extract_lets _ _ _ _ _ _ jp
  have hjp : Inv x K c R 75 ⊢ WP c (jp ⟨⟩) Q :=
    w_done (Y k0_cond29) h (.fxu 0) (w_done (Y k0_cond29) h (.fyu 0) (w_done (Y k0_cond29) h (.gyu 0) (w_ret (hk _))))
  clear_value jp
  refine w_if (fun h' => ?_) fun h' => ?_
  · exact w_done (YY k0_cond29 k0_cond30) ⟨h, h'⟩ (.up 1) hjp
  · exact w_skip (YN k0_cond29 k0_cond30) ⟨h, h'⟩ 1 hjp

theorem part12 (v2 v3 : BitVec 32) (h : k0_cond31 c = 1#1) {R : sProp 𝕄} {Q : _ → sProp 𝕄} (hk : ∀ r, Inv x K c R 83 ⊢ Q r) :
    Inv x K c R 79 ⊢ WP c (k0_part12 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v2 v3 h) Q := by
  simp only [k0_part12_eq_skeleton]
  unfold k0_part12_skel
  simp -zetaHave only [Prog.lift, Prog.bind_op, Prog.bind_ret, Prog.pure_eq_ret]
  extract_lets _ _ _ _ _ _ jp
  have hjp : Inv x K c R 80 ⊢ WP c (jp ⟨⟩) Q :=
    w_done (Y k0_cond31) h (.fxd 0) (w_done (Y k0_cond31) h (.fyd 0) (w_done (Y k0_cond31) h (.gyd 0) (w_ret (hk _))))
  clear_value jp
  refine w_if (fun h' => ?_) fun h' => ?_
  · exact w_done (YY k0_cond31 k0_cond32) ⟨h, h'⟩ (.dn 1) hjp
  · exact w_skip (YN k0_cond31 k0_cond32) ⟨h, h'⟩ 1 hjp

theorem part13 (v2 v3 : BitVec 32) (h : k0_cond33 c = 1#1) {R : sProp 𝕄} {Q : _ → sProp 𝕄} (hk : ∀ r, Inv x K c R 88 ⊢ Q r) :
    Inv x K c R 84 ⊢ WP c (k0_part13 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v2 v3 h) Q := by
  simp only [k0_part13_eq_skeleton]
  unfold k0_part13_skel
  simp -zetaHave only [Prog.lift, Prog.bind_op, Prog.bind_ret, Prog.pure_eq_ret]
  extract_lets _ _ _ _ _ _ jp
  have hjp : Inv x K c R 85 ⊢ WP c (jp ⟨⟩) Q :=
    w_done (Y k0_cond33) h (.fxu 1) (w_done (Y k0_cond33) h (.fyu 1) (w_done (Y k0_cond33) h (.gyu 1) (w_ret (hk _))))
  clear_value jp
  refine w_if (fun h' => ?_) fun h' => ?_
  · exact w_done (YY k0_cond33 k0_cond34) ⟨h, h'⟩ (.up 2) hjp
  · exact w_skip (YN k0_cond33 k0_cond34) ⟨h, h'⟩ 1 hjp

theorem part14 (v2 v3 : BitVec 32) (h : k0_cond35 c = 1#1) {R : sProp 𝕄} {Q : _ → sProp 𝕄} (hk : ∀ r, Inv x K c R 93 ⊢ Q r) :
    Inv x K c R 89 ⊢ WP c (k0_part14 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v2 v3 h) Q := by
  simp only [k0_part14_eq_skeleton]
  unfold k0_part14_skel
  simp -zetaHave only [Prog.lift, Prog.bind_op, Prog.bind_ret, Prog.pure_eq_ret]
  extract_lets _ _ _ _ _ _ jp
  have hjp : Inv x K c R 90 ⊢ WP c (jp ⟨⟩) Q :=
    w_done (Y k0_cond35) h (.fxd 1) (w_done (Y k0_cond35) h (.fyd 1) (w_done (Y k0_cond35) h (.gyd 1) (w_ret (hk _))))
  clear_value jp
  refine w_if (fun h' => ?_) fun h' => ?_
  · exact w_done (YY k0_cond35 k0_cond36) ⟨h, h'⟩ (.dn 2) hjp
  · exact w_skip (YN k0_cond35 k0_cond36) ⟨h, h'⟩ 1 hjp

theorem part15 (v2 : BitVec 32) (h : k0_cond37 c = 1#1) {R : sProp 𝕄} {Q : _ → sProp 𝕄} (hk : ∀ r, Inv x K c R 97 ⊢ Q r) :
    Inv x K c R 94 ⊢ WP c (k0_part15 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v2 h) Q := by
  simp only [k0_part15_eq_skeleton]
  unfold k0_part15_skel
  simp -zetaHave only [Prog.lift, Prog.bind_op, Prog.bind_ret, Prog.pure_eq_ret]
  exact w_done (Y k0_cond37) h (.fxu 2) (w_done (Y k0_cond37) h (.fyu 2) (w_done (Y k0_cond37) h (.gyu 2) (w_ret (hk _))))

theorem part16 (v2 : BitVec 32) (h : k0_cond38 c = 1#1) {R : sProp 𝕄} {Q : _ → sProp 𝕄} (hk : ∀ r, Inv x K c R 101 ⊢ Q r) :
    Inv x K c R 98 ⊢ WP c (k0_part16 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v2 h) Q := by
  simp only [k0_part16_eq_skeleton]
  unfold k0_part16_skel
  simp -zetaHave only [Prog.lift, Prog.bind_op, Prog.bind_ret, Prog.pure_eq_ret]
  exact w_done (Y k0_cond38) h (.fxd 2) (w_done (Y k0_cond38) h (.fyd 2) (w_done (Y k0_cond38) h (.gyd 2) (w_ret (hk _))))

end Cert.AllGather
-- ==== Proof.Program.lean ====
/-
# The program, part by part
-/
module

public import proofs.«01_k».proof.Proof.Parts

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {x : Dev nD → Blk F} {c : Dev nD} {K : Dev nD × Cell → ℕ}

/-! ## The device's own rows, copied -/

/-- Before the copy is issued, while it is under way, and after the wait for it. -/
def copyReady (x : Dev nD → Blk F) (c : Dev nD) : sProp 𝕄 :=
  iprop(dutyTok ER (copyCell c) 0 0 ∗ (∃ f, outPts c (reg c .full) fullShare f) ∗ xPts x c copyShare ∗ atPos ER (copyCell c) 0 ∅ 0)
def copying (c : Dev nD) : sProp 𝕄 := iprop(cred (tallyAt (copyCell c) () N) ∗ atPos ER (copyCell c) 0 ∅ 0)
def copied (x : Dev nD → Blk F) (c : Dev nD) : sProp 𝕄 := iprop(atPos ER (copyCell c) 1 ∅ 0 ∗ copyPay x c)

theorem w_copy {R : sProp 𝕄} {n : ℕ} {α : Type} {Q : α → sProp 𝕄}
    {k : PUnit → Prog (TpuEff nD τ sig (Elt F) Λ₀ .tc) α}
    {off : Fin 2 → ℕ} {inb : ∀ a, off a + S4096x1024.size a ≤ S65536x1024.size a} {sm : DmaSem sig}
    {hsrc : xM.view.WordExact} {hdst : (outM.slice (Rect.unit (s := S65536x1024) off S4096x1024.size inb) (fun _ => rfl)).view.WordExact}
    {hsem : DmaTarget.Typed (nD := nD) (τ := τ) (p := .tc) .vmem (.dma sm) (.here (outM.slice (Rect.unit (s := S65536x1024) off S4096x1024.size inb) (fun _ => rfl)))}
    (hoff : off = ![lo c .full, 0]) (hs : sm = copyD) (hk : Inv x K c iprop(copying c ∗ R) n ⊢ WP c (k ⟨⟩) Q) :
    Inv x K c iprop(copyReady x c ∗ R) n ⊢ WP c (.op (.enqueueDma xM (.here (outM.slice (Rect.unit (s := S65536x1024) off S4096x1024.size inb) (fun _ => rfl))) (.dma sm) hsrc hdst hsem) k) Q := by
  subst hs
  have hset := set_full off inb c hoff
  have hdown : ∀ f : Res F, (((outM.slice (Rect.unit (s := S65536x1024) off S4096x1024.size inb) (fun _ => rfl)).view.loc (c : Thread nD τ)
        ↦[(outM.slice (Rect.unit (s := S65536x1024) off S4096x1024.size inb) (fun _ => rfl)).view.set]{fullShare}
          (outM.slice (Rect.unit (s := S65536x1024) off S4096x1024.size inb) (fun _ => rfl)).view.write (Elt F) f (xM.view.read (Elt F) (x c)) Finset.univ) : sProp 𝕄)
      = outPts c (reg c .full) fullShare (gath x) := by
    intro f
    rw [hset]
    unfold outPts
    exact pointsTo_congr (write_own x c off inb hoff f)
  have hduty : (0 : Fin 4) ∈ (sched x).duties ((c : Thread nD τ), .dma copyD) 0 := by
    show (0 : Fin 4) ∈ (sched x).duties (kcell c .copy) 0
    rw [duties_eq x c .copy]; exact Finset.mem_singleton_self _
  have hN : (outM.slice (Rect.unit (s := S65536x1024) off S4096x1024.size inb) (fun _ => rfl)).view.amount (.dma copyD) = N := rfl
  unfold Inv WP at hk ⊢
  unfold copyReady
  iintro ⟨#Hrecs, #Hlev, ⟨⟨Ht, ⟨%f, Hd⟩, Hx, Hat⟩, HR⟩, Hrest⟩
  ihave #Hs := (recs_at x K c .copy) $$ Hrecs
  icases Hs with ⟨#HI, #Hr⟩
  ihave Hd := (Entails.of_eq (show (outPts c (reg c .full) fullShare f : sProp 𝕄)
    = ((outM.slice (Rect.unit (s := S65536x1024) off S4096x1024.size inb) (fun _ => rfl)).view.loc (c : Thread nD τ)
        ↦[(outM.slice (Rect.unit (s := S65536x1024) off S4096x1024.size inb) (fun _ => rfl)).view.set]{fullShare} f) by rw [hset]; rfl)) $$ Hd
  iapply (Rounds.wp_copy_pointsTo 𝒱₀ ER (sched x) (c : Thread nD τ) none (κ := K (c, .copy)) (r := 0) (d := 0) (fd := f) (fs := x c) (q := copyShare)
    hduty () N hN (amount_eq x c .copy 0)
    (by
      show _ ⊢ (sched x).payload (kcell c .copy) 0 0
      rw [payload_eq x c .copy]
      exact Entails.of_eq (congrArg (fun P => iprop(P ∗ xPts x c copyShare)) (hdown f)))) $$ [Hx Hd Ht]
  · isplitr; · iexact HI
    isplitl [Hx]; · unfold xPts; iexact Hx
    isplitl [Hd]; · iexact Hd
    isplitl [Ht]; · iexact Ht
    iexact Hr
  iintro Hcr
  iapply hk
  isplitr; · iexact Hrecs
  isplitr; · iexact Hlev
  isplitl [Hcr Hat HR]
  · isplitl [Hcr Hat]
    · unfold copying; isplitl [Hcr]; · iexact Hcr
      iexact Hat
    iexact HR
  iexact Hrest

theorem w_copied {R : sProp 𝕄} {n : ℕ} {α : Type} {Q : α → sProp 𝕄}
    {k : PUnit → Prog (TpuEff nD τ sig (Elt F) Λ₀ .tc) α}
    {sp sp' : Space} {s : Shape} {srcM : Memref sig .tc sp s .bf16} {dstM : Memref sig .tc sp' s .bf16} {sm : DmaSem sig}
    {h1 : srcM.view.WordExact} {h2 : dstM.view.WordExact} (hamt : dstM.view.dmaCredit = N) (hs : sm = copyD)
    (hk : Inv x K c iprop(copied x c ∗ R) n ⊢ WP c (k ⟨⟩) Q) :
    Inv x K c iprop(copying c ∗ R) n ⊢ WP c (.op (.waitDma2 sm srcM dstM h1 h2) k) Q := by
  subst hs
  have hexp : 0 + N = (sched x).expect ((c : Thread nD τ), .dma copyD) 0 := by
    have h := expect_eq x c .copy
    rw [show (dut c .copy).card = 1 from rfl, one_mul] at h
    rw [zero_add]; exact h.symm
  have hrest : (bigSep ((sched x).duties ((c : Thread nD τ), .dma copyD) 0 \ ∅) fun d => (sched x).payload ((c : Thread nD τ), .dma copyD) 0 d)
      = copyPay x c := by
    refine (rest_eq x c .copy).trans ?_
    exact bigSep_singleton
  unfold Inv WP at hk ⊢
  unfold copying
  iintro ⟨#Hrecs, #Hlev, ⟨⟨Hcr, Hat⟩, HR⟩, ⟨%W, HO⟩, Hrest⟩
  ihave #Hs := (recs_at x K c .copy) $$ Hrecs
  icases Hs with ⟨#HI, -⟩
  iapply (Rounds.wp_wait_rest_token 𝒱₀ ER (sched x) (c : Thread nD τ) none (κ := K (c, .copy)) (k' := N)
      (by rw [← hamt]; exact wpE_waitDma2_eq 𝒱₀ (c : Thread nD τ) none Set.univ) (Set.mem_univ _) () (O := owed c n) (W := W) (R := 0) (m := 0) (T := ∅)
      hexp) $$ [Hcr HO Hat]
  · isplitr; · iexact HI
    isplitl [Hcr]; · iexact Hcr
    isplitl [HO]; · iexact HO
    isplitr
    · iapply (mayWait c n (.dma copyD) fun t' ht' => by rw [lv_copy]; exact Nat.zero_lt_of_lt (lvl_pos t'))
      iexact Hlev
    iexact Hat
  iintro ⟨HO, Hat, -, Hpay⟩
  ihave Hp := (Entails.of_eq hrest) $$ Hpay
  iapply hk
  isplitr; · iexact Hrecs
  isplitr; · iexact Hlev
  isplitl [Hat Hp HR]
  · isplitl [Hat Hp]
    · unfold copied; isplitl [Hat]; · iexact Hat
      iexact Hp
    iexact HR
  isplitl [HO]; · iexists _; iexact HO
  iexact Hrest

/-! ## The parts between the handshake and the end -/

/-- The own rows sent, and what the chain brings passed on, but for the last of it -/
theorem part18 (v2 v3 v7 v10 v11 v12 : BitVec 32) {R : sProp 𝕄} {Q : _ → sProp 𝕄} (hk : ∀ r, Inv x K c iprop(copying c ∗ R) 20 ⊢ Q r) :
    Inv x K c iprop(copyReady x c ∗ R) 0 ⊢ WP c (k0_part18 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v2 v3 v7 v10 v11 v12) Q := by
  simp only [k0_part18_eq_skeleton]
  unfold k0_part18_skel
  simp -zetaHave only [Prog.lift, Prog.bind_op, Prog.bind_ret, Prog.pure_eq_ret]
  have hoff : k0_off1 c = ![lo c .full, 0] := (by decide +kernel : ∀ c : Dev nD, k0_off1 c = ![lo c .full, 0]) c
  refine w_copy hoff rfl ?_
  extract_lets j6 j5 j4 j3 j2 j1
  have h6 : Inv x K c iprop(copying c ∗ R) 20 ⊢ WP c (j6 ⟨⟩) Q := w_ret (hk _)
  clear_value j6
  have h5 : Inv x K c iprop(copying c ∗ R) 16 ⊢ WP c (j5 ⟨⟩) Q := w_if
    (fun h => w_bind (part4 _ _ _ _ _ h (w_full (Y k0_cond11) h (.fyd 1) (.dn 1) h6)))
    fun h => w_skip (No k0_cond11) h 4 h6
  clear_value j5
  have h4 : Inv x K c iprop(copying c ∗ R) 12 ⊢ WP c (j4 ⟨⟩) Q := w_if
    (fun h => w_bind (part3 _ _ _ _ _ h (w_full (Y k0_cond9) h (.fyu 1) (.up 1) h5)))
    fun h => w_skip (No k0_cond9) h 4 h5
  clear_value j4
  have h3 : Inv x K c iprop(copying c ∗ R) 8 ⊢ WP c (j3 ⟨⟩) Q := w_if
    (fun h => w_bind (part2 _ _ _ _ _ h (w_full (Y k0_cond7) h (.fyd 0) (.dn 0) h4)))
    fun h => w_skip (No k0_cond7) h 4 h4
  clear_value j3
  have h2 : Inv x K c iprop(copying c ∗ R) 2 ⊢ WP c (j2 ⟨⟩) Q := by
    refine w_own Any trivial .fxo ?_
    refine w_own Any trivial .fyo ?_
    exact w_if (fun h => w_bind (part1 _ _ _ _ _ h (w_full (Y k0_cond5) h (.fyu 0) (.up 0) h3)))
      fun h => w_skip (No k0_cond5) h 4 h3
  clear_value j2
  have h1 : Inv x K c iprop(copying c ∗ R) 1 ⊢ WP c (j1 ⟨⟩) Q := w_if
    (fun h => w_own (Y k0_cond4) h (.dn 0) h2) fun h => w_skip (No k0_cond4) h 1 h2
  clear_value j1
  exact w_if (fun h => w_own (Y k0_cond3) h (.up 0) h1) fun h => w_skip (No k0_cond3) h 1 h1

/-- The last of it, and the plane's own blocks -/
theorem part19 (v2 v3 v7 v10 v11 v12 v : BitVec 32) {R : sProp 𝕄} {Q : _ → sProp 𝕄} (hk : ∀ r, Inv x K c R 29 ⊢ Q r) :
    Inv x K c R 20 ⊢ WP c (k0_part19 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v2 v3 v7 v10 v11 v12 v) Q := by
  simp only [k0_part19_eq_skeleton]
  unfold k0_part19_skel
  simp -zetaHave only [Prog.lift, Prog.bind_op, Prog.bind_ret, Prog.pure_eq_ret]
  extract_lets _ j2 _ _ j1 _ _
  have h2 : Inv x K c R 26 ⊢ WP c (j2 ⟨⟩) Q := by
    refine w_recv Any trivial .fxo ?_
    refine w_half Any trivial .gyo .fxo ?_
    exact w_recv Any trivial .fyo (w_ret (hk _))
  clear_value j2
  have h1 : Inv x K c R 23 ⊢ WP c (j1 ⟨⟩) Q := by
    refine w_if (fun h => ?_) fun h => w_skip (No k0_cond14) h 3 h2
    refine w_recv (Y k0_cond14) h (.dn 2) ?_
    refine w_full (Y k0_cond14) h (.fxd 2) (.dn 2) ?_
    exact w_full (Y k0_cond14) h (.fyd 2) (.dn 2) h2
  clear_value j1
  refine w_if (fun h => ?_) fun h => w_skip (No k0_cond13) h 3 h1
  refine w_recv (Y k0_cond13) h (.up 2) ?_
  refine w_full (Y k0_cond13) h (.fxu 2) (.up 2) ?_
  exact w_full (Y k0_cond13) h (.fyu 2) (.up 2) h1

/-- The halves of them and of the chain's blocks -/
theorem part20 (v3 v4 v7 v10 v : BitVec 32) {R : sProp 𝕄} {Q : _ → sProp 𝕄} (hk : ∀ r, Inv x K c R 54 ⊢ Q r) :
    Inv x K c R 29 ⊢ WP c (k0_part20 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v3 v4 v7 v10 v) Q := by
  simp only [k0_part20_eq_skeleton]
  unfold k0_part20_skel
  simp -zetaHave only [Prog.lift, Prog.bind_op, Prog.bind_ret, Prog.pure_eq_ret]
  extract_lets _ _ _ _ _ j6 j5 j4 j3 j2 j1
  have h6 : Inv x K c R 54 ⊢ WP c (j6 ⟨⟩) Q := w_ret (hk _)
  clear_value j6
  have h5 : Inv x K c R 50 ⊢ WP c (j5 ⟨⟩) Q := by
    refine w_if (fun h => w_bind (part10 _ _ h ?_)) fun h => w_skip (No k0_cond20) h 4 h6
    exact fun _ => w_half (Y k0_cond20) h (.hxd 2) (.fyd 2) h6
  clear_value j5
  have h4 : Inv x K c R 46 ⊢ WP c (j4 ⟨⟩) Q := by
    refine w_if (fun h => w_bind (part9 _ _ h ?_)) fun h => w_skip (No k0_cond19) h 4 h5
    exact fun _ => w_half (Y k0_cond19) h (.hxu 2) (.fyu 2) h5
  clear_value j4
  have h3 : Inv x K c R 42 ⊢ WP c (j3 ⟨⟩) Q := by
    refine w_if (fun h => w_bind (part8 _ _ h ?_)) fun h => w_skip (No k0_cond18) h 4 h4
    exact fun _ => w_half (Y k0_cond18) h (.hxd 1) (.fyd 1) h4
  clear_value j3
  have h2 : Inv x K c R 38 ⊢ WP c (j2 ⟨⟩) Q := by
    refine w_if (fun h => w_bind (part7 _ _ h ?_)) fun h => w_skip (No k0_cond17) h 4 h3
    exact fun _ => w_half (Y k0_cond17) h (.hxu 1) (.fyu 1) h3
  clear_value j2
  have h1 : Inv x K c R 34 ⊢ WP c (j1 ⟨⟩) Q := by
    refine w_if (fun h => w_bind (part6 _ _ h ?_)) fun h => w_skip (No k0_cond16) h 4 h2
    exact fun _ => w_half (Y k0_cond16) h (.hxd 0) (.fyd 0) h2
  clear_value j1
  refine w_half Any trivial .hxo .fyo ?_
  refine w_if (fun h => w_bind (part5 _ _ h ?_)) fun h => w_skip (No k0_cond15) h 4 h1
  exact fun _ => w_half (Y k0_cond15) h (.hxu 0) (.fyu 0) h1

/-- and what the neighbours in the plane pass on. -/
theorem part21 (v3 v7 v10 v v' : BitVec 32) {R : sProp 𝕄} {Q : _ → sProp 𝕄} (hk : ∀ r, Inv x K c R 68 ⊢ Q r) :
    Inv x K c R 54 ⊢ WP c (k0_part21 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v3 v7 v10 v v') Q := by
  simp only [k0_part21_eq_skeleton]
  unfold k0_part21_skel
  simp -zetaHave only [Prog.lift, Prog.bind_op, Prog.bind_ret, Prog.pure_eq_ret]
  extract_lets _ _ j6 _ _ _ _ j5 _ _ _ _ j4 _ _ _ _ j3 _ _ _ _ j2 _ _ _ _ j1 _ _ _ _
  have h6 : Inv x K c R 68 ⊢ WP c (j6 ⟨⟩) Q := w_ret (hk _)
  clear_value j6
  have h5 : Inv x K c R 66 ⊢ WP c (j5 ⟨⟩) Q := by
    refine w_if (fun h => ?_) fun h => w_skip (No k0_cond26) h 2 h6
    refine w_recv (Y k0_cond26) h (.hxd 2) ?_
    exact w_recv (Y k0_cond26) h (.gyd 2) h6
  clear_value j5
  have h4 : Inv x K c R 64 ⊢ WP c (j4 ⟨⟩) Q := by
    refine w_if (fun h => ?_) fun h => w_skip (No k0_cond25) h 2 h5
    refine w_recv (Y k0_cond25) h (.hxu 2) ?_
    exact w_recv (Y k0_cond25) h (.gyu 2) h5
  clear_value j4
  have h3 : Inv x K c R 62 ⊢ WP c (j3 ⟨⟩) Q := by
    refine w_if (fun h => ?_) fun h => w_skip (No k0_cond24) h 2 h4
    refine w_recv (Y k0_cond24) h (.hxd 1) ?_
    exact w_recv (Y k0_cond24) h (.gyd 1) h4
  clear_value j3
  have h2 : Inv x K c R 60 ⊢ WP c (j2 ⟨⟩) Q := by
    refine w_if (fun h => ?_) fun h => w_skip (No k0_cond23) h 2 h3
    refine w_recv (Y k0_cond23) h (.hxu 1) ?_
    exact w_recv (Y k0_cond23) h (.gyu 1) h3
  clear_value j2
  have h1 : Inv x K c R 58 ⊢ WP c (j1 ⟨⟩) Q := by
    refine w_if (fun h => ?_) fun h => w_skip (No k0_cond22) h 2 h2
    refine w_recv (Y k0_cond22) h (.hxd 0) ?_
    exact w_recv (Y k0_cond22) h (.gyd 0) h2
  clear_value j1
  refine w_recv Any trivial .hxo ?_
  refine w_recv Any trivial .gyo ?_
  refine w_if (fun h => ?_) fun h => w_skip (No k0_cond21) h 2 h1
  refine w_recv (Y k0_cond21) h (.hxu 0) ?_
  exact w_recv (Y k0_cond21) h (.gyu 0) h1

/-- The first of the copies that must have left. -/
theorem part22 (v2 v3 v v' v'' : BitVec 32) {R : sProp 𝕄} {Q : _ → sProp 𝕄} (hk : ∀ r, Inv x K c R 84 ⊢ Q r) :
    Inv x K c R 68 ⊢ WP c (k0_part22 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 c v2 v3 v v' v'') Q := by
  simp only [k0_part22_eq_skeleton]
  unfold k0_part22_skel
  simp -zetaHave only [Prog.lift, Prog.bind_op, Prog.bind_ret, Prog.pure_eq_ret]
  extract_lets _ _ j4 _ _ j3 _ _ j2 _ _ j1 _ _
  have h4 : Inv x K c R 84 ⊢ WP c (j4 ⟨⟩) Q := w_ret (hk _)
  clear_value j4
  have h3 : Inv x K c R 79 ⊢ WP c (j3 ⟨⟩) Q := by
    refine w_if (fun h => w_bind (part12 _ _ h ?_)) fun h => w_skip (No k0_cond31) h 5 h4
    exact fun _ => w_done (Y k0_cond31) h (.hxd 0) h4
  clear_value j3
  have h2 : Inv x K c R 70 ⊢ WP c (j2 ⟨⟩) Q := by
    refine w_done Any trivial .fxo ?_
    refine w_done Any trivial .fyo ?_
    refine w_done Any trivial .gyo ?_
    refine w_done Any trivial .hxo ?_
    refine w_if (fun h => w_bind (part11 _ _ h ?_)) fun h => w_skip (No k0_cond29) h 5 h3
    exact fun _ => w_done (Y k0_cond29) h (.hxu 0) h3
  clear_value j2
  have h1 : Inv x K c R 69 ⊢ WP c (j1 ⟨⟩) Q :=
    w_if (fun h => w_done (Y k0_cond28) h (.dn 0) h2) fun h => w_skip (No k0_cond28) h 1 h2
  clear_value j1
  exact w_if (fun h => w_done (Y k0_cond27) h (.up 0) h1) fun h => w_skip (No k0_cond27) h 1 h1

end Cert.AllGather
-- ==== Proof.Entry.lean ====
/-
# The entry handshake
-/
module

public import proofs.«01_k».proof.Proof.Program

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {x : Dev nD → Blk F} {c : Dev nD} {K : Dev nD × Cell → ℕ}

/-! ## What a device holds while it signals -/

/-- What it says to its neighbours from side `j` on: each one's duty, and that the rows that neighbour copies may be written. -/
def sayings (c : Dev nD) (j : ℕ) : sProp 𝕄 :=
  bigSep (sidesFrom c j) fun i => iprop(dutyTok ER (barCell (nbr c i)) 0 (opp i) ∗ barPay (nbr c i) (opp i))

def Entry (x : Dev nD → Blk F) (K : Dev nD × Cell → ℕ) (c : Dev nD) (R : sProp 𝕄) (j : ℕ) : sProp 𝕄 :=
  iprop(recs x K ∗ levAts L lv ∗ R ∗ (∃ W, owes (c : Thread nD τ) (owed c 0 + owedBar c j) W)
    ∗ sayings c j ∗ cred (tallyAt (barCell c) () (deg c)) ∗ atPos ER (barCell c) 0 ∅ 0)

theorem sidesFrom_link : ∀ (c : Dev nD) (j : Fin 4), link c j = true →
    sidesFrom c j.val = insert j (sidesFrom c (j.val + 1)) ∧ j ∉ sidesFrom c (j.val + 1) := by decide +kernel
theorem sidesFrom_none : ∀ (c : Dev nD) (j : Fin 4), link c j = false → sidesFrom c j.val = sidesFrom c (j.val + 1) := by decide +kernel
theorem sidesFrom_end : ∀ (c : Dev nD), sidesFrom c 4 = ∅ := by decide +kernel
theorem card_sides : ∀ (c : Dev nD), (sides c).card = deg c := by decide +kernel

omit [FloatOps F] in
theorem sayings_link (j : Fin 4) (h : link c j = true) : (sayings c j.val : sProp 𝕄)
    = iprop((dutyTok ER (barCell (nbr c j)) 0 (opp j) ∗ barPay (nbr c j) (opp j)) ∗ sayings c (j.val + 1)) := by
  unfold sayings; rw [(sidesFrom_link c j h).1, bigSep_insert (sidesFrom_link c j h).2]; rfl

theorem owedBar_link (j : Fin 4) (h : link c j = true) :
    owedBar c j.val = owedBar c (j.val + 1) + tallyAt (barCell (nbr c j)) () 1 := by
  unfold owedBar; rw [(sidesFrom_link c j h).1, Finset.sum_insert (sidesFrom_link c j h).2, add_comm]

/-- The signal to the neighbour on side `j` -/
theorem w_signal {R : sProp 𝕄} {α : Type} {Q : α → sProp 𝕄} {k : PUnit → Prog (TpuEff nD τ sig (Elt F) Λ₀ .tc) α} {d : Dev nD} {s : Sem sig}
    (hs : s = barS) (j : Fin 4) (h : link c j = true) (hd : d = nbr c j) (hk : Entry x K c R (j.val + 1) ⊢ WP c (k ⟨⟩) Q) :
    Entry x K c R j.val ⊢ WP c (.op (.semSignal ((d, .tc) : Thread nD τ) s (1#32).toInt) k) Q := by
  subst hs hd
  have hduty : opp j ∈ (sched x).duties ((nbr c j : Thread nD τ), .reg barS) 0 := by
    show opp j ∈ (sched x).duties (kcell (nbr c j) .bar) 0
    rw [duties_eq x (nbr c j) .bar]
    exact Finset.mem_filter.mpr ⟨Finset.mem_univ _, (link_opp c j).trans h⟩
  have hpay : (sched x).payload ((nbr c j : Thread nD τ), .reg barS) 0 (opp j) = barPay (nbr c j) (opp j) := payload_eq x (nbr c j) .bar (opp j)
  unfold Entry WP at hk ⊢
  rw [sayings_link j h, owedBar_link j h]
  iintro ⟨#Hrecs, #Hlev, HR, ⟨%W, HO⟩, ⟨⟨Ht, Hp⟩, Hsay⟩, Hrest⟩
  ihave #Hr := (recs_at x K (nbr c j) .bar) $$ Hrecs
  icases Hr with ⟨#HI, #Hrd⟩
  iapply (Rounds.wp_signal 𝒱₀ ER (sched x) (c : Thread nD τ) none (dst := (nbr c j : Thread nD τ)) (κ := K (nbr c j, .bar))
      (d := opp j) (k' := 1) hduty (amount_eq x (nbr c j) .bar (opp j)) () (owed c 0 + owedBar c (j.val + 1)) (add_assoc _ _ _).symm)
    $$ [HO Ht Hp]
  · isplitr; · iexact HI
    isplitl [HO]; · iexact HO
    isplitl [Ht]; · iexact Ht
    isplitl [Hp]; · rw [hpay]; iexact Hp
    iexact Hrd
  iintro HO
  iapply hk
  isplitr; · iexact Hrecs
  isplitr; · iexact Hlev
  isplitl [HR]; · iexact HR
  isplitl [HO]; · iexists W; iexact HO
  isplitl [Hsay]; · iexact Hsay
  iexact Hrest

omit [FloatOps F] in
/-- and none where there is no neighbour. -/
theorem Entry_mute {R : sProp 𝕄} (j : Fin 4) (h : link c j = false) : Entry x K c R j.val = Entry x K c R (j.val + 1) := by
  unfold Entry sayings owedBar; rw [sidesFrom_none c j h]

/-! ## The wait for the neighbours' signals -/

/-- A copy's means but for where it writes. -/
def outE (c : Dev nD) (t : Xfer) : sProp 𝕄 :=
  if active c t = true then iprop(dutyTok ER (sndCell c t) 0 0 ∗ dutyTok ER (rcvCell (tgt c t) t) 0 0 ∗ atPos ER (sndCell c t) 0 ∅ 0) else idle c t

omit [FloatOps F] in
/-- Over pairs in a relation, grouped by the one side or by the other. -/
theorem bigSep_turn {A B : Type} [Fintype A] [Fintype B] [DecidableEq A] [DecidableEq B] (S : A → Finset B) (S' : B → Finset A)
    (h : ∀ a b, b ∈ S a ↔ a ∈ S' b) (Φ : A → B → sProp 𝕄) :
    (bigSep Finset.univ fun a => bigSep (S a) fun b => Φ a b) = bigSep Finset.univ fun b => bigSep (S' b) fun a => Φ a b := by
  have all : ∀ {C : Type} [Fintype C] [DecidableEq C] (s : Finset C) (Ψ : C → sProp 𝕄),
      bigSep s Ψ = bigSep Finset.univ fun b => if b ∈ s then Ψ b else BIBase.emp := by
    intro C _ _ s Ψ
    conv_lhs => rw [← Finset.filter_univ_mem s]
    exact bigSep_filter Finset.univ (fun b => b ∈ s) Ψ
  rw [bigSep_congr fun a _ => all (S a) (Φ a), bigSep_congr (s := Finset.univ) fun b _ => all (S' b) fun a => Φ a b,
    bigSep_univ_comm fun a b => if b ∈ S a then Φ a b else BIBase.emp]
  exact bigSep_congr fun b _ => bigSep_congr fun a _ => if_congr (h a b) rfl rfl

/-- The side a device's copy goes to, if it makes it. -/
def goes (c : Dev nD) (t : Xfer) : Finset (Fin 4) := if active c t = true then {chan t} else ∅

theorem outsTo_none (c : Dev nD) (j : Fin 4) (h : ¬ link c j = true) : outsTo c j = ∅ := by
  unfold outsTo
  refine Finset.filter_eq_empty_iff.mpr fun t ht hj => h ?_
  rw [← hj]; exact link_of_active c t (mem_outs.mp ht)

omit [FloatOps F] in
/-- What the neighbours say is where all the device's copies write. -/
theorem barPays (c : Dev nD) : (bigSep (sides c) fun j => barPay (F := F) c j) = bigSep (outs c) fun t => dstRes c t := by
  have h1 : (bigSep (sides c) fun j => barPay (F := F) c j) = bigSep Finset.univ fun j => bigSep (outsTo c j) fun t => dstRes c t := by
    unfold sides
    rw [bigSep_filter]
    refine bigSep_congr fun j _ => ?_
    by_cases h : link c j = true
    · rw [if_pos h]; rfl
    · rw [if_neg h, outsTo_none c j h, bigSep_empty]
  rw [h1, bigSep_turn (outsTo c) (goes c) (fun j t => by
    unfold goes outsTo
    by_cases h : active c t = true
    · rw [if_pos h, Finset.mem_filter, mem_outs, Finset.mem_singleton]; exact ⟨fun p => p.2.symm, fun p => ⟨h, p.symm⟩⟩
    · rw [if_neg h, Finset.mem_filter, mem_outs]; exact ⟨fun p => absurd p.1 h, fun p => absurd p (Finset.notMem_empty _)⟩)
    fun _ t => dstRes c t]
  unfold outs
  rw [bigSep_filter]
  refine bigSep_congr fun t _ => ?_
  unfold goes
  by_cases h : active c t = true
  · rw [if_pos h, if_pos h, bigSep_singleton]
  · rw [if_neg h, if_neg h, bigSep_empty]

omit [FloatOps F] in
theorem outS_entry (c : Dev nD) : (iprop(bigSep Finset.univ (outE c) ∗ bigSep (outs c) fun t => dstRes c t) : sProp 𝕄)
    = bigSep Finset.univ (outS c 0) := by
  unfold outs
  rw [bigSep_filter, ← bigSep_sep']
  refine bigSep_congr fun t _ => ?_
  unfold outE outS
  by_cases h : active c t = true
  · rw [if_pos h, if_pos h, if_pos h, if_pos (Nat.zero_le _)]
    unfold pend
    refine eq_of_bi ⟨?_, ?_⟩
    · iintro ⟨⟨H1, H2, H3⟩, H4⟩
      isplitl [H1]; · iexact H1
      isplitl [H2]; · iexact H2
      isplitl [H4]; · iexact H4
      iexact H3
    · iintro ⟨H1, H2, H4, H3⟩
      isplitr [H4]
      · isplitl [H1]; · iexact H1
        isplitl [H2]; · iexact H2
        iexact H3
      iexact H4
  · rw [if_neg h, if_neg h, if_neg h]; exact sep_emp_eq _

/-- What a device starts its copies from, the neighbours' word apart. -/
def gear (x : Dev nD → Blk F) (c : Dev nD) : sProp 𝕄 :=
  iprop(copyReady x c ∗ bigSep Finset.univ (outE c) ∗ bigSep Finset.univ (handS x c 0) ∗ bigSep Finset.univ (innS x c 0))

/-- The wait for all of them -/
theorem w_entry {α : Type} {Q : α → sProp 𝕄} {k : PUnit → Prog (TpuEff nD τ sig (Elt F) Λ₀ .tc) α} {n : ℤ} {s : Sem sig}
    (hs : s = barS) (hn : n = ((deg c : ℕ) : ℤ)) (hk : Inv x K c iprop(copyReady x c ∗ atPos ER (barCell c) 1 ∅ 0) 0 ⊢ WP c (k ⟨⟩) Q) :
    Entry x K c (gear x c) 4 ⊢ WP c (.op (.semWait s n) k) Q := by
  subst hs hn
  have hexp : 0 + deg c = (sched x).expect ((c : Thread nD τ), .reg barS) 0 := by
    have h := expect_eq x c .bar
    rw [show (dut c .bar).card = deg c from card_sides c, show units .bar = 1 from rfl, Nat.mul_one] at h
    rw [Nat.zero_add]; exact h.symm
  have hrest : (bigSep ((sched x).duties ((c : Thread nD τ), .reg barS) 0 \ ∅) fun d => (sched x).payload ((c : Thread nD τ), .reg barS) 0 d)
      = bigSep (outs c) fun t => dstRes c t := (rest_eq x c .bar).trans (barPays c)
  have ho : owedBar c 4 = 0 := by unfold owedBar; rw [sidesFrom_end, Finset.sum_empty]
  unfold Inv WP at hk
  unfold Entry WP gear
  rw [ho, add_zero]
  iintro ⟨#Hrecs, #Hlev, ⟨Hc, Hout, Hrest⟩, ⟨%W, HO⟩, -, Hcr, Hat⟩
  ihave #Hr := (recs_at x K c .bar) $$ Hrecs
  icases Hr with ⟨#HI, -⟩
  iapply (Rounds.wp_wait_rest_token 𝒱₀ ER (sched x) (c : Thread nD τ) none (κ := K (c, .bar)) (k' := deg c)
      (wpE_semWait_eq 𝒱₀ (c : Thread nD τ) none Set.univ) (Set.mem_univ _) () (O := owed c 0) (W := W) (R := 0) (m := 0) (T := ∅)
      hexp) $$ [Hcr HO Hat]
  · isplitr; · iexact HI
    isplitl [Hcr]; · iexact Hcr
    isplitl [HO]; · iexact HO
    isplitr
    · iapply (mayWait c 0 (.reg barS) fun t' _ => by rw [lv_bar]; exact lvl_pos t')
      iexact Hlev
    iexact Hat
  iintro ⟨HO, Hat, -, Hpay⟩
  ihave Hp := (Entails.of_eq hrest) $$ Hpay
  ihave Hout := (Entails.of_eq (outS_entry c)) $$ [Hout Hp]
  · isplitl [Hout]; · iexact Hout
    iexact Hp
  iapply hk
  isplitr; · iexact Hrecs
  isplitr; · iexact Hlev
  isplitl [Hc Hat]
  · isplitl [Hc]; · iexact Hc
    iexact Hat
  isplitl [HO]; · iexists _; iexact HO
  isplitl [Hout]; · iexact Hout
  iexact Hrest

/-! ## The program's beginning -/

attribute [local irreducible] Inv Entry gear

theorem w_device {P : sProp 𝕄} {α : Type} {Q : α → sProp 𝕄} {k : Dev nD → Prog (TpuEff nD τ sig (Elt F) Λ₀ .tc) α}
    (hk : P ⊢ WP c (k c) Q) : P ⊢ WP c (.op .deviceId k) Q := by
  unfold WP at hk ⊢
  rw [wp_deviceId]; exact hk

theorem part17 {Q : _ → sProp 𝕄}
    (hk : ∀ w2 w3 w4 w7 w10 w11 w12, Inv x K c iprop(copyReady x c ∗ atPos ER (barCell c) 1 ∅ 0) 0 ⊢ Q ⟨c, w2, w3, w4, w7, w10, w11, w12⟩) :
    Entry x K c (gear x c) 0 ⊢ WP c (k0_part17 (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28) Q := by
  simp only [k0_part17_eq_skeleton]
  unfold k0_part17_skel
  simp -zetaHave only [semSignalWord, semWaitWord, Prog.lift, Prog.bind_op, Prog.bind_ret, Prog.pure_eq_ret]
  refine w_device ?_
  extract_lets _ _ _ _ _ _ _ _ _ _ _ _ _ j2 j1
  have h2 : Entry x K c (gear x c) 4 ⊢ WP c (j2 ⟨⟩) Q := by
    have ha := (by decide +kernel : ∀ c : Dev nD, (k0_amt1 c).toInt = ((deg c : ℕ) : ℤ)) c
    exact w_entry rfl ha (w_ret (hk _ _ _ _ _ _ _))
  clear_value j2
  have h1 : Entry x K c (gear x c) 3 ⊢ WP c (j1 ⟨⟩) Q := by
    refine w_if (fun h => ?_) fun h => ?_
    · exact w_signal rfl 3 ((by decide +kernel : ∀ c : Dev nD, k0_cond2 c = 1#1 → link c 3 = true) c h)
        (Fin.ext ((by decide +kernel : ∀ c : Dev nD, k0_cond2 c = 1#1 → k0_dev4 c = (nbr c 3).val) c h)) h2
    · exact (Entails.of_eq (Entry_mute 3 ((by decide +kernel : ∀ c : Dev nD, ¬ k0_cond2 c = 1#1 → link c 3 = false) c h))).trans h2
  clear_value j1
  refine w_signal rfl 0 rfl (Fin.ext ((by decide +kernel : ∀ c : Dev nD, k0_dev1 c = (nbr c 0).val) c)) ?_
  refine w_signal rfl 1 rfl (Fin.ext ((by decide +kernel : ∀ c : Dev nD, k0_dev2 c = (nbr c 1).val) c)) ?_
  refine w_if (fun h => ?_) fun h => ?_
  · exact w_signal rfl 2 ((by decide +kernel : ∀ c : Dev nD, k0_cond1 c = 1#1 → link c 2 = true) c h)
      (Fin.ext ((by decide +kernel : ∀ c : Dev nD, k0_cond1 c = 1#1 → k0_dev3 c = (nbr c 2).val) c h)) h1
  · exact (Entails.of_eq (Entry_mute 2 ((by decide +kernel : ∀ c : Dev nD, ¬ k0_cond1 c = 1#1 → link c 2 = false) c h))).trans h1

/-! ## The whole program -/

theorem w_end {α : Type} {a : α} {P : sProp 𝕄} {Q : α → sProp 𝕄} (h : P ⊢ |={Set.univ}=> Q a) : P ⊢ WP (F := F) c (.ret a) Q := by
  unfold WP
  rw [wp_ret]
  exact h

theorem program {Q : PUnit → sProp 𝕄} (hk : Inv x K c iprop(copied x c ∗ atPos ER (barCell c) 1 ∅ 0) 102 ⊢ |={Set.univ}=> Q ⟨⟩) :
    Entry x K c (gear x c) 0 ⊢ WP c (cc0_body (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28) Q := by
  simp only [cc0_body_eq_skeleton]
  unfold cc0_body_skel
  refine w_bind (part17 fun v2 v3 v4 v7 v10 v11 v12 => ?_)
  refine w_bind (part18 _ _ _ _ _ _ fun c3 => ?_)
  refine w_bind (part19 _ _ _ _ _ _ _ fun v86 => ?_)
  refine w_bind (part20 _ _ _ _ _ fun r => ?_)
  obtain ⟨v111, v116⟩ := r
  refine w_bind (part21 _ _ _ _ _ fun r => ?_)
  obtain ⟨v145, v0⟩ := r
  refine w_bind (part22 _ _ _ _ _ fun r => ?_)
  obtain ⟨v171, v1⟩ := r
  simp -zetaHave only [Prog.lift, Prog.bind_op, Prog.bind_ret, Prog.pure_eq_ret]
  extract_lets j4 _ _ j3 _ _ j2 _ _ j1 _ _
  have h4 : Inv x K c iprop(copying c ∗ atPos ER (barCell c) 1 ∅ 0) 102 ⊢ WP c (j4 ⟨⟩) Q := w_copied rfl rfl (w_end hk)
  clear_value j4
  have h3 : Inv x K c iprop(copying c ∗ atPos ER (barCell c) 1 ∅ 0) 98 ⊢ WP c (j3 ⟨⟩) Q := by
    refine w_if (fun h => w_bind (part16 _ h ?_)) fun h => w_skip (No k0_cond38) h 4 h4
    exact fun _ => w_done (Y k0_cond38) h (.hxd 2) h4
  clear_value j3
  have h2 : Inv x K c iprop(copying c ∗ atPos ER (barCell c) 1 ∅ 0) 94 ⊢ WP c (j2 ⟨⟩) Q := by
    refine w_if (fun h => w_bind (part15 _ h ?_)) fun h => w_skip (No k0_cond37) h 4 h3
    exact fun _ => w_done (Y k0_cond37) h (.hxu 2) h3
  clear_value j2
  have h1 : Inv x K c iprop(copying c ∗ atPos ER (barCell c) 1 ∅ 0) 89 ⊢ WP c (j1 ⟨⟩) Q := by
    refine w_if (fun h => w_bind (part14 _ _ h ?_)) fun h => w_skip (No k0_cond35) h 5 h2
    exact fun _ => w_done (Y k0_cond35) h (.hxd 1) h2
  clear_value j1
  refine w_if (fun h => w_bind (part13 _ _ h ?_)) fun h => w_skip (No k0_cond33) h 5 h1
  exact fun _ => w_done (Y k0_cond33) h (.hxu 1) h1

end Cert.AllGather
-- ==== Proof.Finish.lean ====
/-
# The end of a device's run
-/
module

public import proofs.«01_k».proof.Proof.Entry

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Blk F) (K : Dev nD × Cell → ℕ) (c : Dev nD)

omit [FloatOps F]

/-! ## The cells closed -/

theorem close (k : Cell) (R : ℕ) (h : ∀ r, R ≤ r → (sched (F := F) x).duties (kcell c k) r = ∅) :
    iprop(recs x K ∗ atPos ER (kcell c k) R ∅ 0) ⊢ |={Set.univ}=> semVal (kcell c k) 0 := by
  iintro ⟨#Hrecs, Hat⟩
  ihave #Hr := (recs_at x K c k) $$ Hrecs
  icases Hr with ⟨#HI, -⟩
  iapply (Rounds.cell_close ER (sched x) (Set.mem_univ (K (c, k))) (fun h => h) (R := R) h)
  isplitr; · iexact HI
  iexact Hat

/-- A cell past its round, and a cell nobody raises. -/
theorem close_used (k : Cell) : iprop(recs x K ∗ atPos ER (kcell c k) 1 ∅ 0) ⊢ |={Set.univ}=> semVal (kcell c k) 0 :=
  close x K c k 1 (duties_later x _)
theorem close_idle (k : Cell) (h : dut c k = ∅) : iprop(recs x K ∗ atPos ER (kcell c k) 0 ∅ 0) ⊢ |={Set.univ}=> semVal (kcell c k) 0 :=
  close x K c k 0 fun r _ => by
    rcases Nat.eq_zero_or_pos r with rfl | hr
    · exact (duties_eq x c k).trans h
    · exact duties_later x _ r hr

theorem close_outs : iprop(recs x K ∗ bigSep Finset.univ (outS c 102)) ⊢ |={Set.univ}=> bigSep Finset.univ fun t => semVal (sndCell c t) 0 := by
  refine BI.Entails.trans (bigSep_with_persistent (Ψ := fun t => iprop(|={Set.univ}=> semVal (sndCell c t) 0)) fun t _ => ?_) (bigSep_fupd _ _)
  unfold outS
  by_cases h : active c t = true
  · have h1 := pos_lt (.send t)
    have h2 := pos_lt (.done t)
    rw [if_pos h, if_neg (by omega), if_neg (by omega)]
    exact close_used x K c (.snd t)
  · rw [if_neg h]
    exact close_idle x K c (.snd t) (if_neg h)

/-- An arrival's place at the end. -/
def inEnd (c : Dev nD) (t : Xfer) : sProp 𝕄 :=
  if incoming c t = true then atPos ER (rcvCell c t) 1 ∅ 0 else atPos ER (rcvCell c t) 0 ∅ 0
/-- What is left of it. -/
def inLeft (c : Dev nD) (t : Xfer) : sProp 𝕄 := if incoming c t = true then leftover x c t else BIBase.emp

theorem innS_end (t : Xfer) : (innS x c 102 t : sProp 𝕄) = iprop(inEnd c t ∗ inLeft x c t) := by
  unfold innS inEnd inLeft
  by_cases h : incoming c t = true
  · have h1 := pos_lt (.recv t)
    rw [if_pos h, if_pos h, if_pos h, if_neg (by omega)]; rfl
  · rw [if_neg h, if_neg h, if_neg h]; exact (sep_emp_eq _).symm

theorem close_inns : iprop(recs x K ∗ bigSep Finset.univ (inEnd c)) ⊢ |={Set.univ}=> bigSep Finset.univ fun t => semVal (rcvCell c t) 0 := by
  refine BI.Entails.trans (bigSep_with_persistent (Ψ := fun t => iprop(|={Set.univ}=> semVal (rcvCell c t) 0)) fun t _ => ?_) (bigSep_fupd _ _)
  unfold inEnd
  by_cases h : incoming c t = true
  · rw [if_pos h]; exact close_used x K c (.rcv t)
  · rw [if_neg h]; exact close_idle x K c (.rcv t) (if_neg h)

/-! ## What was read, put together -/

/-- The copies that read what an arrival brought, if it was made; the arrival a copy reads. -/
def reads (c : Dev nD) (p : Xfer) : Finset Xfer := if incoming c p = true then kids p else ∅
def readOf (c : Dev nD) (t : Xfer) : Finset Xfer := match parent t with
  | none => ∅
  | some p => if incoming c p = true then {p} else ∅

theorem mem_reads (p t : Xfer) : t ∈ reads c p ↔ p ∈ readOf c t := by
  unfold reads readOf kids
  by_cases h : parent t = some p
  · rw [h]; dsimp only
    by_cases hi : incoming c p = true
    · rw [if_pos hi, if_pos hi, Finset.mem_filter, Finset.mem_singleton]; exact ⟨fun _ => rfl, fun _ => ⟨Finset.mem_univ _, h⟩⟩
    · rw [if_neg hi, if_neg hi]; exact ⟨fun h => absurd h (Finset.notMem_empty _), fun h => absurd h (Finset.notMem_empty _)⟩
  · refine ⟨fun ht => ?_, fun hp => ?_⟩
    · split at ht
      · exact absurd (Finset.mem_filter.mp ht).2 h
      · exact absurd ht (Finset.notMem_empty _)
    · cases hq : parent t with
      | none => rw [hq] at hp; exact absurd hp (Finset.notMem_empty _)
      | some q =>
        rw [hq] at hp; dsimp only at hp
        split at hp
        · exact absurd (by rw [hq, Finset.mem_singleton.mp hp]) h
        · exact absurd hp (Finset.notMem_empty _)

/-- At the end a device holds again what its copies of its own block read, and what every other copy of it read. -/
theorem handS_end (t : Xfer) : (handS x c 102 t : sProp 𝕄)
    = iprop((if parent t = none then srcRes x c t else BIBase.emp) ∗ bigSep (readOf c t) fun _ => srcRes x c t) := by
  have hd := pos_lt (.done t)
  unfold handS readOf
  rw [if_neg (fun h : flies c 102 t => by have := h.2.2; omega)]
  cases hp : parent t with
  | none =>
    dsimp only
    rw [if_pos (show avail c 102 t from fun p h => by rw [hp] at h; cases h), if_pos rfl, bigSep_empty]; exact (sep_emp_eq _).symm
  | some p =>
    dsimp only
    rw [if_neg (show ¬(some p = none) from fun h => by cases h)]
    by_cases hi : incoming c p = true
    · rw [if_pos (show avail c 102 t from fun q h => by rw [hp] at h; cases h; exact ⟨hi, pos_lt _⟩), if_pos hi, bigSep_singleton]; exact (emp_sep_eq _).symm
    · rw [if_neg (show ¬avail c 102 t from fun h => hi (h p hp).1), if_neg hi, bigSep_empty]; exact (emp_sep_eq _).symm

theorem roots : (Finset.univ.filter fun t => parent t = none) = {.up 0, .dn 0, .fxo, .fyo} := by decide +kernel

theorem rootRes : iprop((bigSep Finset.univ fun t => if parent t = none then srcRes x c t else BIBase.emp) ∗ xPts x c copyShare)
    = (xPts x c fullShare : sProp 𝕄) := by
  rw [show (bigSep Finset.univ fun t => if parent t = none then srcRes x c t else BIBase.emp)
      = bigSep (Finset.univ.filter fun t => parent t = none) (srcRes x c) from (bigSep_filter Finset.univ (fun t => parent t = none) (srcRes x c)).symm, roots, bigSep_insert (by decide), bigSep_insert (by decide), bigSep_insert (by decide), bigSep_singleton,
    srcRes_root x c rfl, srcRes_root x c rfl, srcRes_root x c rfl, srcRes_root x c rfl,
    xPts_share x c fullShare, xPts_share x c fullShare.left, xPts_share x c fullShare.right, xPts_share x c fullShare.right.right]
  show iprop((_ ∗ _ ∗ _ ∗ _) ∗ _) = _
  refine eq_of_bi ⟨?_, ?_⟩
  · iintro ⟨⟨H1, H2, H3, H4⟩, H5⟩
    isplitl [H1 H2]
    · isplitl [H1]; · iexact H1
      iexact H2
    isplitl [H3]; · iexact H3
    isplitl [H4]; · iexact H4
    iexact H5
  · iintro ⟨⟨H1, H2⟩, H3, H4, H5⟩
    isplitr [H5]
    · isplitl [H1]; · iexact H1
      isplitl [H2]; · iexact H2
      isplitl [H3]; · iexact H3
      iexact H4
    iexact H5

/-- What is left of the arrivals and what was read of them is all they brought. -/
theorem arrivals : iprop(bigSep Finset.univ (inLeft x c) ∗ bigSep Finset.univ fun t => bigSep (readOf c t) fun _ => srcRes x c t)
    = (bigSep (ins c) fun t => rcvPay x c t : sProp 𝕄) := by
  rw [← bigSep_turn (reads c) (readOf c) (mem_reads c) fun _ t => srcRes x c t, ← bigSep_sep']
  unfold ins
  rw [bigSep_filter]
  refine bigSep_congr fun p _ => ?_
  unfold inLeft reads
  by_cases h : incoming c p = true
  · rw [if_pos h, if_pos h, if_pos h]; exact (rcvPay_split x c p).symm
  · rw [if_neg h, if_neg h, if_neg h, bigSep_empty]; exact sep_emp_eq _

/-- With the own block the regions the arrivals fill are the whole result. -/
theorem whole (f : Res F) : iprop(outPts c (reg c .full) fullShare f ∗ bigSep (ins c) fun t => outPts c (inReg c t) fullShare f)
    = (outPts c Finset.univ fullShare f : sProp 𝕄) := by
  rw [← own_union c]
  unfold outPts
  have h1 := (pointsTo_biUnion (Ix := Unit) (Name := ℕ) (U := UU) (Lvl := ℕ) (Val := Elt F) (ℓ := outM.view.loc (c : Thread nD τ)) (q := fullShare) (f := f)
    (ins c) (inReg c) (inReg_disjoint c))
  rw [← h1]
  exact (eq_of_bi (pointsTo_union (own_disjoint c))).symm

/-! ## The end -/

def Done (x : Dev nD → Blk F) (c : Dev nD) : sProp 𝕄 :=
  iprop((∃ W, owes (c : Thread nD τ) 0 W) ∗ xPts x c fullShare ∗ outPts c Finset.univ fullShare (gath x)
    ∗ bigSep Finset.univ fun k : Cell => semVal (kcell c k) 0)

theorem cells_all (Φ : Cell → sProp 𝕄) : bigSep Finset.univ Φ
    = iprop(Φ .bar ∗ Φ .copy ∗ (bigSep Finset.univ fun t => Φ (.snd t)) ∗ bigSep Finset.univ fun t => Φ (.rcv t)) := by
  rw [bigSep_univ_sum, bigSep_univ_sum, show (Finset.univ : Finset Bool) = {false, true} from by decide, bigSep_insert (by decide), bigSep_singleton]
  show iprop((_ ∗ _) ∗ _ ∗ _) = _
  refine eq_of_bi ⟨?_, ?_⟩
  · iintro ⟨⟨H1, H2⟩, H3⟩
    isplitl [H1]; · iexact H1
    isplitl [H2]; · iexact H2
    iexact H3
  · iintro ⟨H1, H2, H3⟩
    isplitl [H1 H2]
    · isplitl [H1]; · iexact H1
      iexact H2
    iexact H3

theorem finish : Inv x K c iprop(copied x c ∗ atPos ER (barCell c) 1 ∅ 0) 102 ⊢ |={Set.univ}=> Done x c := by
  have ho : owed c 102 = 0 := by
    have : unsent c 102 = ∅ := Finset.filter_eq_empty_iff.mpr fun t _ h => by have := pos_lt (.send t); omega
    unfold owed; rw [this, Finset.sum_empty]
  unfold Inv copied copyPay
  rw [ho, bigSep_congr (s := Finset.univ) fun t _ => innS_end x c t, bigSep_congr (s := Finset.univ) fun t _ => handS_end x c t, bigSep_sep', bigSep_sep']
  iintro ⟨#Hrecs, -, ⟨⟨Hcp, Hown, Hx⟩, Hb⟩, HO, Hout, ⟨Hroot, Hread⟩, Hin, Hleft⟩
  imod (close_used x K c .copy) $$ [Hcp] with Hc
  · isplitr; · iexact Hrecs
    iexact Hcp
  imod (close_used x K c .bar) $$ [Hb] with Hb
  · isplitr; · iexact Hrecs
    iexact Hb
  imod (close_outs x K c) $$ [Hout] with Hs
  · isplitr; · iexact Hrecs
    iexact Hout
  imod (close_inns x K c) $$ [Hin] with Hr
  · isplitr; · iexact Hrecs
    iexact Hin
  imodintro
  unfold Done
  isplitl [HO]; · iexact HO
  isplitl [Hroot Hx]
  · iapply (Entails.of_eq (rootRes x c))
    isplitl [Hroot]; · iexact Hroot
    iexact Hx
  isplitl [Hown Hleft Hread]
  · iapply (Entails.of_eq (whole c (gath x)))
    isplitl [Hown]; · iexact Hown
    iapply (Entails.of_eq (arrivals x c))
    isplitl [Hleft]; · iexact Hleft
    iexact Hread
  iapply (Entails.of_eq (cells_all fun k : Cell => (semVal (kcell c k) 0 : sProp 𝕄)).symm)
  isplitl [Hb]; · iexact Hb
  isplitl [Hc]; · iexact Hc
  isplitl [Hs]; · iexact Hs
  iexact Hr

end Cert.AllGather
-- ==== Proof.Deal.lean ====
/-
# What each device is dealt at launch
-/
module

public import proofs.«01_k».proof.Proof.Finish
public import Idealize.ShloMosaic.Lib.Pipeline.Launch

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Blk F) (K : Dev nD × Cell → ℕ) (c : Dev nD)

omit [FloatOps F]

/-! ## Pairs of a device and a side, or a copy, seen from the other end -/

def sideTurn : Dev nD × Fin 4 ≃ Dev nD × Fin 4 where
  toFun p := (nbr p.1 p.2, opp p.2)
  invFun p := (nbr p.1 p.2, opp p.2)
  left_inv p := Prod.ext (nbr_opp p.1 p.2) (opp_opp p.2)
  right_inv p := Prod.ext (nbr_opp p.1 p.2) (opp_opp p.2)

def xferTurn : Dev nD × Xfer ≃ Dev nD × Xfer where
  toFun p := (tgt p.1 p.2, p.2)
  invFun p := (src p.1 p.2, p.2)
  left_inv p := Prod.ext (src_tgt p.1 p.2) rfl
  right_inv p := Prod.ext (tgt_src p.1 p.2) rfl

theorem turn_sides (Φ : Dev nD → Fin 4 → sProp 𝕄) : (bigSep Finset.univ fun c => bigSep (sides c) fun j => Φ c j)
    = bigSep Finset.univ fun c => bigSep (sides c) fun i => Φ (nbr c i) (opp i) := by
  have e : ∀ Ψ : Dev nD → Fin 4 → sProp 𝕄, (bigSep Finset.univ fun c => bigSep (sides c) fun j => Ψ c j)
      = bigSep Finset.univ fun p : Dev nD × Fin 4 => if link p.1 p.2 = true then Ψ p.1 p.2 else BIBase.emp := fun Ψ => by
    rw [bigSep_univ_prod]
    exact bigSep_congr fun c _ => bigSep_filter Finset.univ (fun j => link c j = true) (Ψ c)
  rw [e, e fun c i => Φ (nbr c i) (opp i), bigSep_univ_equiv sideTurn]
  exact bigSep_congr fun p _ => if_congr (by show link (nbr p.1 p.2) (opp p.2) = true ↔ _; rw [link_opp]) rfl rfl

theorem turn_ins (Φ : Dev nD → Xfer → sProp 𝕄) : (bigSep Finset.univ fun c => bigSep (ins c) fun t => Φ c t)
    = bigSep Finset.univ fun c => bigSep (outs c) fun t => Φ (tgt c t) t := by
  have e1 : ∀ Ψ : Dev nD → Xfer → sProp 𝕄, (bigSep Finset.univ fun c => bigSep (ins c) fun t => Ψ c t)
      = bigSep Finset.univ fun p : Dev nD × Xfer => if incoming p.1 p.2 = true then Ψ p.1 p.2 else BIBase.emp := fun Ψ => by
    rw [bigSep_univ_prod]
    exact bigSep_congr fun c _ => bigSep_filter Finset.univ (fun t => incoming c t = true) (Ψ c)
  have e2 : ∀ Ψ : Dev nD → Xfer → sProp 𝕄, (bigSep Finset.univ fun c => bigSep (outs c) fun t => Ψ c t)
      = bigSep Finset.univ fun p : Dev nD × Xfer => if active p.1 p.2 = true then Ψ p.1 p.2 else BIBase.emp := fun Ψ => by
    rw [bigSep_univ_prod]
    exact bigSep_congr fun c _ => bigSep_filter Finset.univ (fun t => active c t = true) (Ψ c)
  rw [e1, e2 fun c t => Φ (tgt c t) t, bigSep_univ_equiv xferTurn]
  exact bigSep_congr fun p _ => if_congr (by show incoming (tgt p.1 p.2) p.2 = true ↔ _; rw [incoming_tgt]) rfl rfl

theorem sum_sides {A : Type} [AddCommMonoid A] (f : Dev nD → Fin 4 → A) : (∑ c, ∑ i ∈ sides c, f (nbr c i) (opp i)) = ∑ c, ∑ j ∈ sides c, f c j := by
  unfold sides
  simp only [Finset.sum_filter]
  rw [← Fintype.sum_prod_type', ← Fintype.sum_prod_type']
  refine Fintype.sum_equiv sideTurn _ _ fun p => if_congr ?_ rfl rfl
  show _ ↔ link (nbr p.1 p.2) (opp p.2) = true
  rw [link_opp]

theorem sum_ins {A : Type} [AddCommMonoid A] (f : Dev nD → Xfer → A) : (∑ c, ∑ t ∈ outs c, f (tgt c t) t) = ∑ c, ∑ t ∈ ins c, f c t := by
  unfold outs ins
  simp only [Finset.sum_filter]
  rw [← Fintype.sum_prod_type', ← Fintype.sum_prod_type']
  refine Fintype.sum_equiv xferTurn _ _ fun p => if_congr ?_ rfl rfl
  show _ ↔ incoming (tgt p.1 p.2) p.2 = true
  rw [incoming_tgt]

/-! ## The duties -/

/-- The duties of a device's own cells, and the duties it pays. -/
def toks (c : Dev nD) : sProp 𝕄 := bigSep Finset.univ fun k : Cell => bigSep (dut c k) fun d => dutyTok ER (kcell c k) 0 d
def pays (c : Dev nD) : sProp 𝕄 :=
  iprop((bigSep (sides c) fun i => dutyTok ER (barCell (nbr c i)) 0 (opp i)) ∗ dutyTok ER (copyCell c) 0 0
    ∗ (bigSep (outs c) fun t => dutyTok ER (sndCell c t) 0 0) ∗ bigSep (outs c) fun t => dutyTok ER (rcvCell (tgt c t) t) 0 0)

theorem toks_eq (c : Dev nD) : (toks c : sProp 𝕄)
    = iprop((bigSep (sides c) fun j => dutyTok ER (barCell c) 0 j) ∗ dutyTok ER (copyCell c) 0 0
      ∗ (bigSep (outs c) fun t => dutyTok ER (sndCell c t) 0 0) ∗ bigSep (ins c) fun t => dutyTok ER (rcvCell c t) 0 0) := by
  have one : ∀ (b : Bool) (Φ : Fin 4 → sProp 𝕄), bigSep (if b = true then {0} else ∅) Φ = if b = true then Φ 0 else BIBase.emp := by
    intro b Φ
    cases b with
    | true => exact bigSep_singleton
    | false => exact bigSep_empty
  unfold toks outs ins
  rw [cells_all, bigSep_filter, bigSep_filter]
  refine congr (congrArg _ rfl) (congr (congrArg _ bigSep_singleton) (congr (congrArg _ ?_) ?_))
  · exact bigSep_congr fun t _ => one (active c t) _
  · exact bigSep_congr fun t _ => one (incoming c t) _

theorem toks_around : (bigSep Finset.univ toks : sProp 𝕄) = bigSep Finset.univ pays := by
  rw [bigSep_congr (s := Finset.univ) fun c _ => toks_eq c]
  unfold pays
  rw [bigSep_sep', bigSep_sep', bigSep_sep', bigSep_sep', bigSep_sep', bigSep_sep', turn_sides fun c j => dutyTok ER (barCell c) 0 j,
    turn_ins fun c t => dutyTok ER (rcvCell c t) 0 0]

/-! ## The credits -/

def claims (c : Dev nD) : sProp 𝕄 :=
  iprop((bigSep (ins c) fun t => cred (tallyAt (rcvCell c t) () (amt t))) ∗ cred (tallyAt (barCell c) () (deg c)))

def due (c : Dev nD) : CellTallies nD τ sig Unit := (∑ t ∈ ins c, tallyAt (rcvCell c t) () (amt t)) + ∑ j ∈ sides c, tallyAt (barCell c) () 1

/-- What a device owes at launch. -/
def O₀ (c : Dev nD) : CellTallies nD τ sig Unit := owed c 0 + owedBar c 0

theorem O₀_eq (c : Dev nD) : O₀ c = (∑ t ∈ outs c, tallyAt (rcvCell (tgt c t) t) () (amt t)) + ∑ i ∈ sides c, tallyAt (barCell (nbr c i)) () 1 := by
  have h1 : unsent c 0 = outs c := Finset.filter_true_of_mem fun _ _ => Nat.zero_le _
  have h2 : sidesFrom c 0 = sides c := Finset.filter_true_of_mem fun _ _ => Nat.zero_le _
  unfold O₀ owed owedBar; rw [h1, h2]

theorem sum_due : (∑ c, O₀ c) = ∑ c, due c := by
  rw [Finset.sum_congr rfl fun c _ => O₀_eq c]
  unfold due
  rw [Finset.sum_add_distrib, Finset.sum_add_distrib, sum_ins fun c t => (tallyAt (rcvCell c t) () (amt t) : CellTallies nD τ sig Unit),
    sum_sides fun c _ => (tallyAt (barCell c) () 1 : CellTallies nD τ sig Unit)]

theorem tally_units (g : GSem nD τ sig) (n : ℕ) : n • (tallyAt g () 1 : CellTallies nD τ sig Unit) = tallyAt g () n := by
  funext g'
  refine Finsupp.ext fun u => ?_
  rw [Pi.smul_apply, Finsupp.smul_apply, tallyAt_apply, tallyAt_apply]
  split <;> simp

theorem due_own (c : Dev nD) (g : GSem nD τ sig) (h : due c g ≠ 0) : g.1 = (c.tc : Thread nD τ) := by
  obtain ⟨u, hu⟩ := Finsupp.ne_iff.mp h
  have hp := Nat.pos_of_ne_zero hu
  unfold due at hp
  rw [Pi.add_apply, Finsupp.add_apply] at hp
  rcases Nat.add_pos_iff_pos_or_pos.mp hp with hp | hp
  · obtain ⟨t, -, rfl⟩ := tally_pos_cell _ _ _ hp; rfl
  · obtain ⟨t, -, rfl⟩ := tally_pos_cell _ _ _ hp; rfl

theorem claims_intro (c : Dev nD) : (Pipeline.launchCred O₀ c : sProp 𝕄) ⊢ claims c := by
  rw [Pipeline.launchCred_of_sum O₀ due sum_due due_own c]
  unfold due claims
  rw [Finset.sum_const, tally_units, card_sides, ← Pipeline.cred_finsetSum]
  exact (cred_add _ _).1

/-! ## What a device starts from -/

def held (c : Dev nD) : sProp 𝕄 := bigSep Finset.univ fun k : Cell => atPos ER (kcell c k) 0 ∅ 0

theorem outE_start (c : Dev nD) : (iprop((bigSep (outs c) fun t => dutyTok ER (sndCell c t) 0 0) ∗ (bigSep (outs c) fun t => dutyTok ER (rcvCell (tgt c t) t) 0 0)
      ∗ bigSep Finset.univ fun t => atPos ER (sndCell c t) 0 ∅ 0) : sProp 𝕄) = bigSep Finset.univ (outE c) := by
  unfold outs
  rw [bigSep_filter, bigSep_filter, ← bigSep_sep', ← bigSep_sep']
  refine bigSep_congr fun t _ => ?_
  unfold outE
  by_cases h : active c t = true
  · rw [if_pos h, if_pos h, if_pos h]
  · rw [if_neg h, if_neg h, if_neg h]; exact (emp_sep_eq _).trans (emp_sep_eq _)

theorem innS_start : (iprop((bigSep (ins c) fun t => cred (tallyAt (rcvCell c t) () (amt t))) ∗ bigSep Finset.univ fun t => atPos ER (rcvCell c t) 0 ∅ 0) : sProp 𝕄)
    = bigSep Finset.univ (innS x c 0) := by
  unfold ins
  rw [bigSep_filter, ← bigSep_sep']
  refine bigSep_congr fun t _ => ?_
  unfold innS
  by_cases h : incoming c t = true
  · rw [if_pos h, if_pos h, if_pos (Nat.zero_le _)]; rfl
  · rw [if_neg h, if_neg h]; exact emp_sep_eq _

theorem handS_start : (bigSep Finset.univ (handS x c 0) : sProp 𝕄) = bigSep Finset.univ fun t => if parent t = none then srcRes x c t else BIBase.emp := by
  refine bigSep_congr fun t _ => ?_
  unfold handS
  rw [if_neg (fun h : flies c 0 t => Nat.not_lt_zero _ h.2.1)]
  refine if_congr ⟨fun h => ?_, fun h p hp => by rw [h] at hp; cases hp⟩ rfl rfl
  cases hp : parent t with
  | none => rfl
  | some p => exact absurd (h p hp).2 (Nat.not_lt_zero _)

/-- Where the copies to a device write, by the side they come from. -/
theorem barPays_in (c : Dev nD) : (bigSep (sides c) fun i => barPay (F := F) (nbr c i) (opp i))
    = bigSep (ins c) fun t => iprop(∃ f, outPts c (inReg c t) fullShare f) := by
  have hsrc : ∀ i t, t ∈ outsTo (nbr c i) (opp i) → src c t = nbr c i := fun i t ht => by
    unfold src; rw [(Finset.mem_filter.mp ht).2, opp_opp]
  have h1 : (bigSep (sides c) fun i => barPay (F := F) (nbr c i) (opp i))
      = bigSep Finset.univ fun i => bigSep (outsTo (nbr c i) (opp i)) fun t => iprop(∃ f, outPts c (inReg c t) fullShare f) := by
    unfold sides
    rw [bigSep_filter]
    refine bigSep_congr fun i _ => ?_
    by_cases h : link c i = true
    · rw [if_pos h]
      unfold barPay
      refine bigSep_congr fun t ht => ?_
      unfold dstRes inReg
      rw [hsrc i t ht, show tgt (nbr c i) t = c from by unfold tgt; rw [(Finset.mem_filter.mp ht).2, nbr_opp]]
    · rw [if_neg h, outsTo_none (nbr c i) (opp i) (by rw [link_opp]; exact h), bigSep_empty]
  rw [h1, bigSep_turn (fun i => outsTo (nbr c i) (opp i)) (fun t => if incoming c t = true then {opp (chan t)} else ∅) (fun i t => by
    by_cases h : incoming c t = true
    · rw [if_pos h, Finset.mem_singleton]
      refine ⟨fun ht => by rw [(Finset.mem_filter.mp ht).2, opp_opp], fun hi => ?_⟩
      rw [hi]
      exact Finset.mem_filter.mpr ⟨mem_outs.mpr h, (opp_opp _).symm⟩
    · rw [if_neg h]
      refine ⟨fun ht => absurd ?_ h, fun p => absurd p (Finset.notMem_empty _)⟩
      unfold incoming; rw [hsrc i t ht]; exact mem_outs.mp (Finset.mem_filter.mp ht).1)
    fun _ t => iprop(∃ f, outPts c (inReg c t) fullShare f)]
  unfold ins
  rw [bigSep_filter]
  refine bigSep_congr fun t _ => ?_
  by_cases h : incoming c t = true
  · rw [if_pos h, if_pos h, bigSep_singleton]
  · rw [if_neg h, if_neg h, bigSep_empty]

theorem ins_some (f : Res F) : (bigSep (ins c) fun t => outPts c (inReg c t) fullShare f : sProp 𝕄)
    ⊢ bigSep (ins c) fun t => iprop(∃ f, outPts c (inReg c t) fullShare f) :=
  bigSep_mono fun t _ => by
    show (outPts c (inReg c t) fullShare f : sProp 𝕄) ⊢ iprop(∃ f, outPts c (inReg c t) fullShare f)
    iintro H; iexists f; iexact H

theorem entry_intro (f : Res F) :
    iprop(recs x K ∗ levAts L lv ∗ held c ∗ pays c ∗ claims c ∗ outPts c Finset.univ fullShare f ∗ xPts x c fullShare
        ∗ ∃ W, owes (c : Thread nD τ) (owed c 0 + owedBar c 0) W)
      ⊢ Entry x K c (gear x c) 0 := by
  have h2 : sidesFrom c 0 = sides c := Finset.filter_true_of_mem fun _ _ => Nat.zero_le _
  unfold Entry gear sayings held pays claims copyReady
  rw [h2, bigSep_sep', cells_all, ← whole c f, ← rootRes x c, handS_start, ← outE_start, ← innS_start x, barPays_in c]
  iintro ⟨Hrecs, Hlev, ⟨Ab, Ac, As, Ar⟩, ⟨Tb, Tc, Ts, Tr⟩, ⟨Cr, Cb⟩, ⟨Hown, Hins⟩, ⟨Hroot, Hx⟩, HO⟩
  isplitl [Hrecs]; · iexact Hrecs
  isplitl [Hlev]; · iexact Hlev
  isplitl [Tc Hown Hx Ac Ts Tr As Hroot Cr Ar]
  · isplitl [Tc Hown Hx Ac]
    · isplitl [Tc]; · iexact Tc
      isplitl [Hown]; · iexists f; iexact Hown
      isplitl [Hx]; · iexact Hx
      iexact Ac
    isplitl [Ts Tr As]
    · isplitl [Ts]; · iexact Ts
      isplitl [Tr]; · iexact Tr
      iexact As
    isplitl [Hroot]; · iexact Hroot
    isplitl [Cr]; · iexact Cr
    iexact Ar
  isplitl [HO]; · iexact HO
  isplitl [Tb Hins]
  · isplitl [Tb]; · iexact Tb
    iapply (ins_some c f)
    iexact Hins
  isplitl [Cb]; · iexact Cb
  iexact Ab

end Cert.AllGather
-- ==== Proof.Run.lean ====
/-
# The run of the sixteen devices
-/
module

public import proofs.«01_k».proof.Proof.Deal
public import proofs.«01_k».proof.Proof.Gen.KernelIdeal.Points
public import Idealize.ShloMosaic.Lib.Pipeline.Kit
public import Idealize.ShloMosaic.Lib.Pipeline.CollectiveSegs
public import Idealize.ShloMosaic.Lib.Tactic

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ) (ρ : Dev nD → PrngReg)

/-! ## The pipeline's data -/

/-- The machine at launch. -/
abbrev s₀ : MemSt nD τ sig (Elt F) := ⟨m, fun _ => 0, ρ⟩

/-- A device's block, as staged. -/
def xstg (c : Dev nD) : Blk F := (win0_0.blk (0 : Fin 1)).view.read (Elt F) (m ((c : Thread nD τ).loc main_arg0))

/-- What a device's body starts from: what it was dealt, and its result's rows. -/
def start (c : Dev nD) : sProp 𝕄 :=
  iprop((∃ K, recs (xstg m) K ∗ held c ∗ pays c) ∗ levAts L lv ∗ claims c ∗ ∃ f, outPts c Finset.univ fullShare f)
/-- What it ends with: the gathered array, every semaphore at zero. -/
def ended (c : Dev nD) : sProp 𝕄 :=
  iprop(outPts c Finset.univ fullShare (gath (xstg m)) ∗ bigSep Finset.univ fun k : Cell => semVal (kcell c k) 0)

def dats (_ : Fin 1) (c : Dev nD) : Dat τ (Elt F) Unit ℕ UU ℕ cfg0 c where
  A w := m ((cfg0.win w).arr.view.loc (c : Thread nD τ))
  after w _ := match w with
    | ⟨0, _⟩ => xstg m c
  Φ t := match t with
    | ⟨0, _⟩ => start m c
    | ⟨_ + 1, _⟩ => ended m c
  q _ := fullShare
  owed t := match t with
    | ⟨0, _⟩ => O₀ c
    | ⟨_ + 1, _⟩ => 0

omit [FloatOps F] in
theorem owns_stage (c : Dev nD) (X : Blk F) :
    (owns (Ix := Unit) (Name := ℕ) (U := UU) (Lvl := ℕ) (c : Thread nD τ) (Memref.whole cc0_stg0_0) fullShare X : sProp 𝕄)
      = iprop(∃ f : Buf (Elt F) (((c : Dev nD) : Thread nD τ).loc cc0_stg0_0), ⌜f = X⌝ ∗ (((c : Thread nD τ).loc cc0_stg0_0) ↦{fullShare} f)) := by
  unfold owns; simp only [Memref.view_whole, View.read_whole, View.set_whole]

omit [FloatOps F] in
theorem xPts_stage (x : Dev nD → Blk F) (c : Dev nD) :
    (xPts x c fullShare : sProp 𝕄) = (((c : Thread nD τ).loc cc0_stg0_0) ↦{fullShare} x c) := by
  unfold xPts; rw [View.set_whole]

/-! ## The body -/

def bodyPre (c : Dev nD) : sProp 𝕄 :=
  iprop(start m c ∗ (dats m 0 c).owesAt () t0_0.castSucc
    ∗ ∃ d, ∃ f : Buf (Elt F) (((c : Dev nD) : Thread nD τ).loc cc0_stg0_0), ⌜f = (dats m 0 c).before (0 : Fin 1) t0_0 d⌝ ∗ (((c : Thread nD τ).loc cc0_stg0_0) ↦{fullShare} f))
def bodyPost (c : Dev nD) : sProp 𝕄 :=
  iprop(ended m c ∗ (dats m 0 c).owesAt () t0_0.succ
    ∗ ∃ f : Buf (Elt F) (((c : Dev nD) : Thread nD τ).loc cc0_stg0_0), ⌜f = xstg m c⌝ ∗ (((c : Thread nD τ).loc cc0_stg0_0) ↦{fullShare} f))

omit [FloatOps F] in
theorem body_end (K : Dev nD × Cell → ℕ) (c : Dev nD) :
    Inv (xstg m) K c iprop(copied (xstg m) c ∗ atPos ER (barCell c) 1 ∅ 0) 102 ⊢ |={Set.univ}=> bodyPost m c := by
  refine (finish (xstg m) K c).trans (BI.fupd_mono ?_)
  unfold Done bodyPost ended Dat.owesAt Pipeline.owesWithin
  rw [xPts_stage]
  iintro ⟨⟨%W, HO⟩, Hx, Hout, Hs⟩
  isplitl [Hout Hs]
  · isplitl [Hout]; · iexact Hout
    iexact Hs
  isplitl [HO]
  · iexists W
    isplitr; · ipureintro; exact fun _ _ => Or.inl trivial
    iexact HO
  iexists _; isplitr; · (ipureintro; rfl)
  iexact Hx

attribute [local irreducible] Inv Entry gear recs held pays claims

theorem body_run (c : Dev nD) : bodyPre m c ⊢ WP c (cc0_body (F := F) xM (Memref.isWhole_whole _) outM (Memref.isWhole_whole _)
      cc0_scratch0 cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14
      cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28) (fun _ => bodyPost m c) := by
  have hg : ∀ d, (dats m 0 c).before (0 : Fin 1) t0_0 d = xstg m c := fun d => by
    unfold Dat.before; rw [if_pos (fetch0_0 t0_0)]; rfl
  unfold bodyPre start Dat.owesAt Pipeline.owesWithin
  rw [show (dats m 0 c).owed t0_0.castSucc = O₀ c from rfl]
  iintro ⟨⟨⟨%K, Hrecs, Hheld, Hpays⟩, Hlev, Hcl, ⟨%f, Hout⟩⟩, ⟨%W, -, HO⟩, ⟨%d, %g, %hx, Hx⟩⟩
  rw [hg d] at hx
  subst hx
  iapply ((entry_intro (xstg m) K c f).trans (program (body_end m K c)))
  isplitl [Hrecs]; · iexact Hrecs
  isplitl [Hlev]; · iexact Hlev
  isplitl [Hheld]; · iexact Hheld
  isplitl [Hpays]; · iexact Hpays
  isplitl [Hcl]; · iexact Hcl
  isplitl [Hout]; · iexact Hout
  isplitl [Hx]; · iapply (Entails.of_eq (xPts_stage (xstg m) c).symm); iexact Hx
  iexists W; iexact HO

set_option maxHeartbeats 4000000 in
set_option maxRecDepth 4000 in
/-- The body, as the launch asks for it. -/
theorem body_obligation (c : Dev nD) : BodyObligation (dats (F := F) m 0 c) (defs₀ (F := F)) 𝒱₀ () Set.univ := fun t => by
  rw [fin_N0 t]
  rw [bigSep_W0, bigSep_W0]
  simp only [owns_stage]
  have h := body_run m c
  unfold WP at h
  exact h

/-! ## The launch -/

/-- The kernel's own semaphores: all but the entry's. -/
abbrev osem : Unit ⊕ (Xfer ⊕ Xfer) → SemLoc sig
  | .inl _ => csem .copy
  | .inr y => csem (.inr y)

theorem ownSemFacts : Pipeline.OwnSemFacts cfg0.spec osem := by decide +kernel

theorem share_eq (c : Dev nD) (w : Fin cfg0.W) : (dats m 0 c).share w = fullShare := by unfold Dat.share; split <;> rfl

def cells : Finset (GSem nD τ sig) := Finset.univ.map ⟨fun ck : Dev nD × Cell => kcell ck.1 ck.2, kcell_inj⟩

theorem tok_inj : Function.Injective fun p : (Dev nD × Cell) × Fin 4 => ((kcell p.1.1 p.1.2, 0, p.2) : GSem nD τ sig × ℕ × Fin 4) := fun p p' h =>
  Prod.ext (kcell_inj (congrArg Prod.fst h)) (congrArg (fun x : GSem nD τ sig × ℕ × Fin 4 => x.2.2) h)
def mints : Finset (GSem nD τ sig × ℕ × Fin 4) :=
  (Finset.univ.filter fun p : (Dev nD × Cell) × Fin 4 => p.2 ∈ dut p.1.1 p.1.2).map ⟨_, tok_inj⟩

def u₀ : UU := (initOf (Pipeline.cells cfgs cellOf_inj) (Pipeline.launchToks cfgs cellOf_inj), initOf cells mints)

variable (x : Dev nD → Blk F)

/-- What the launch deals a device, and what it has when the cells are shared. -/
def G (c : Dev nD) : sProp 𝕄 :=
  iprop((bigSep Finset.univ fun k : Cell => roundState ER (sched x) (kcell c k) 0) ∗ (bigSep Finset.univ fun k : Cell => reached ER (kcell c k) 0)
    ∗ held c ∗ toks c)
def G' (c : Dev nD) : sProp 𝕄 := iprop(∃ K, recs x K ∗ held c ∗ pays c)

section
omit [FloatOps F]

theorem cells_dealt (Φ : GSem nD τ sig → sProp 𝕄) : bigSep cells Φ = bigSep Finset.univ fun c : Dev nD => bigSep Finset.univ fun k : Cell => Φ (kcell c k) := by
  unfold cells; rw [bigSep_map, bigSep_univ_prod]; rfl

theorem mints_dealt : bigSep mints (fun p => (dutyTok ER p.1 p.2.1 p.2.2 : sProp 𝕄)) = bigSep Finset.univ fun c : Dev nD => toks c := by
  have only : ∀ (c : Dev nD) (k : Cell), (bigSep Finset.univ fun d : Fin 4 => if d ∈ dut c k then (dutyTok ER (kcell c k) 0 d : sProp 𝕄) else BIBase.emp)
      = bigSep (dut c k) fun d => dutyTok ER (kcell c k) 0 d := fun c k => by
    have h := (bigSep_filter Finset.univ (fun d => d ∈ dut c k) fun d => (dutyTok ER (kcell c k) 0 d : sProp 𝕄)).symm
    rwa [Finset.filter_univ_mem] at h
  unfold mints
  rw [bigSep_map, bigSep_filter, bigSep_univ_prod, bigSep_univ_prod]
  exact bigSep_congr fun c _ => bigSep_congr fun k _ => only c k

theorem fund_cells : BI.own (ER (initOf cells mints)) ⊢ (|==> bigSep Finset.univ (G x) : sProp 𝕄) := by
  iintro HX
  imod (Rounds.fund ER (sched x) cells mints) $$ HX with ⟨Hst, Hr, Hat, Htok⟩
  imodintro
  ihave Hst' := (Entails.of_eq (cells_dealt fun g => roundState ER (sched x) g 0)) $$ Hst
  ihave Hat' := (Entails.of_eq (cells_dealt (F := F) fun g => atPos ER g 0 ∅ 0)) $$ Hat
  ihave Hr' := (Entails.of_eq (cells_dealt (F := F) fun g => reached ER g 0)) $$ Hr
  ihave Htok' := (Entails.of_eq (mints_dealt (F := F))) $$ Htok
  unfold G held; rw [bigSep_sep', bigSep_sep', bigSep_sep']
  isplitl [Hst']; · iexact Hst'
  isplitl [Hr']; · iexact Hr'
  isplitl [Hat']; · iexact Hat'
  iexact Htok'

theorem sems_eq (c : Dev nD) : iprop(unscopedSems0 c ∗ Pipeline.ownSems0 (Ix := Unit) (Name := ℕ) (U := UU) (Lvl := ℕ) (Val := Elt F) (τ := τ) osem c)
    = (bigSep Finset.univ fun k : Cell => semVal (kcell c k) 0 : sProp 𝕄) := by
  have hu : (unscopedSems0 c : sProp 𝕄) = semVal (barCell c) 0 := by
    unfold unscopedSems0; rw [bigSep_eq_bigSepL_of_eq [SemLoc.reg barS] (by decide) (by decide)]; rfl
  have ho : (Pipeline.ownSems0 (Ix := Unit) (Name := ℕ) (U := UU) (Lvl := ℕ) (Val := Elt F) (τ := τ) osem c : sProp 𝕄)
      = iprop(semVal (copyCell c) 0 ∗ (bigSep Finset.univ fun t => semVal (sndCell c t) 0) ∗ bigSep Finset.univ fun t => semVal (rcvCell c t) 0) := by
    unfold Pipeline.ownSems0
    rw [bigSep_univ_sum, bigSep_univ_sum, show (Finset.univ : Finset Unit) = {()} from rfl, bigSep_singleton]; rfl
  rw [hu, ho, cells_all]; rfl

theorem cells_open (c : Dev nD) :
    iprop(Pipeline.ownSems0 (Ix := Unit) (Name := ℕ) (U := UU) (Lvl := ℕ) (Val := Elt F) (τ := τ) osem c ∗ unscopedSems0 c ∗ G x c)
      ⊢ |={Set.univ}=> iprop((bigSep Finset.univ fun k : Cell => iprop(∃ κ : ℕ, cellInv ER (sched x) κ (kcell c k)))
          ∗ (bigSep Finset.univ fun k : Cell => reached ER (kcell c k) 0) ∗ held c ∗ toks c) := by
  unfold G
  iintro ⟨Hos, Hus, Hst, Hrest⟩
  ihave Hv := (Entails.of_eq (sems_eq (F := F) c)) $$ [Hos Hus]
  · isplitl [Hus] <;> iassumption
  imod (show iprop((bigSep Finset.univ fun k : Cell => semVal (kcell c k) 0) ∗ bigSep Finset.univ fun k : Cell => roundState ER (sched x) (kcell c k) 0)
      ⊢ (|={Set.univ}=> bigSep Finset.univ fun k : Cell => iprop(∃ κ : ℕ, cellInv ER (sched x) κ (kcell c k)) : sProp 𝕄) from by
        rw [← bigSep_sep']
        exact (bigSep_mono fun k _ => (Rounds.body_intro ER (sched x) (kcell c k)).trans inv_alloc).trans (bigSep_fupd _ _)) $$ [Hv Hst] with Hinv
  · isplitl [Hv] <;> iassumption
  imodintro
  isplitl [Hinv]; · iexact Hinv
  iexact Hrest

theorem shared : (bigSep Finset.univ fun c : Dev nD => iprop((bigSep Finset.univ fun k : Cell => iprop(∃ κ : ℕ, cellInv ER (sched x) κ (kcell c k)))
        ∗ (bigSep Finset.univ fun k : Cell => reached ER (kcell c k) 0) ∗ held c ∗ toks c) : sProp 𝕄)
    ⊢ bigSep Finset.univ (G' x) := by
  rw [bigSep_sep', bigSep_sep', bigSep_sep', toks_around,
    ← bigSep_univ_prod (fun ck : Dev nD × Cell => iprop(∃ κ : ℕ, cellInv ER (sched x) κ (kcell ck.1 ck.2))),
    ← bigSep_univ_prod (fun ck : Dev nD × Cell => (reached ER (kcell ck.1 ck.2) 0 : sProp 𝕄))]
  iintro ⟨HI, HR, Hat, Htok⟩
  ihave HK := (BI.bigSep_exists_pi Finset.univ (fun (ck : Dev nD × Cell) (κ : ℕ) => (cellInv ER (sched x) κ (kcell ck.1 ck.2) : sProp 𝕄))) $$ HI
  icases HK with ⟨%K, HI⟩
  ihave #Hrecs := (Entails.of_eq (show iprop((bigSep Finset.univ fun ck : Dev nD × Cell => cellInv ER (sched x) (K ck) (kcell ck.1 ck.2))
      ∗ bigSep Finset.univ fun ck : Dev nD × Cell => reached ER (kcell ck.1 ck.2) 0) = (recs x K : sProp 𝕄) from by unfold recs; rw [bigSep_sep'])) $$ [HI HR]
  · isplitl [HI] <;> iassumption
  have each : ∀ c ∈ (Finset.univ : Finset (Dev nD)), iprop(recs x K ∗ (held c ∗ pays c)) ⊢ (G' x c : sProp 𝕄) := fun c _ => by
    unfold G'
    iintro H
    iexists K
    iexact H
  iapply (bigSep_with_persistent (R := recs x K) each)
  isplitr; · iexact Hrecs
  rw [bigSep_sep']
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G x c) : sProp 𝕄)
    ⊢ |={Set.univ}=> bigSep Finset.univ (G' x) :=
  ((bigSep_mono fun c _ => cells_open x c).trans (bigSep_fupd _ _)).trans (BI.fupd_mono (shared x))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xstg m) c)
      ⊢ |={Set.univ}=> iprop(start m c ∗ emp) := by
  rw [Pipeline.unscopedRestP_none, unscopedRest0_eq]
  iintro ⟨Hout, Hlev, Hcr, -, HG⟩
  ihave Hc := (claims_intro (F := F) c) $$ Hcr
  imodintro
  unfold start G'
  isplitl
  · isplitl [HG]; · iexact HG
    isplitl [Hlev]; · iexact Hlev
    isplitl [Hc]; · iexact Hc
    iexists (m ((c : Thread nD τ).loc main_v1)); unfold outPts; iexact Hout
  · iempintro

end

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨Hs, -, -⟩
  iexact Hs

theorem phi1_exit (c : Dev nD) :
    (dats m 0 c).Φ (Fin.last cfg0.N) ⊢ iprop((outPts c Finset.univ fullShare (gath (xstg m)) ∗ unscopedSems0 c) ∗ Pipeline.ownSems0 osem c ∗ Pipeline.scopedRest cfg0.spec c) := by
  rw [show (dats m 0 c).Φ (Fin.last cfg0.N) = ended m c from rfl, scopedRest0_eq]
  unfold ended
  rw [← sems_eq]
  iintro ⟨Hout, Hb, Ho⟩
  isplitl [Hout Hb]
  · isplitl [Hout] <;> iassumption
  isplitl [Ho]; · iexact Ho
  iempintro

/-- The staging semaphore is none of the cells. -/
abbrev stageD : DmaSem sig := (⟨0, by decide⟩ : Fin 70)
omit [FloatOps F] in
theorem lv_stage (c : Dev nD) : lv ((c : Thread nD τ), .dma stageD) () = 0 := by
  have hn : ∀ k, csem k ≠ SemLoc.dma stageD := by decide +kernel
  unfold lv cellAt
  rw [show Function.partialInv csem (((c : Thread nD τ), .dma stageD) : GSem nD τ sig).2 = none from dif_neg fun ⟨k, hk⟩ => hn k hk]

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · fin_cases w; fin_cases s
      exact mayWait_zero c 0 0 (.dma stageD) (lv_stage c)
    · show _ ⊢ MayWait (c : Thread nD τ) _ () 0
      rw [MayWait_zero]; iintro -; iempintro

/-! ## The run -/

set_option maxHeartbeats 4000000 in
set_option maxRecDepth 8000 in
/-- From any memory, for any floats: the sixteen devices' kernels end, each device's result holding the gathered
    array, its block unchanged, every semaphore at zero. -/
theorem run_main : θ_run defs (onTc (τ := τ) (main (F := F))) (s₀ m ρ) (fun r =>
    (∀ c : Dev nD, r.2.mem ((c : Thread nD τ).loc main_v1) = gath (xstg m) ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xstg m)) (G' := G' (xstg m)) (u₀ := u₀)
    (hu₀ := by
      unfold u₀
      iintro Hu
      ihave H := (ownU_pair _ _) $$ Hu
      icases H with ⟨HP, HX⟩
      imod (fund_cells (xstg m)) $$ HX with HG
      imodintro
      isplitl [HP] <;> iassumption)
    (hglob := glob (xstg m))
    (hA := fun _ _ => rfl) (hpf := fun _ k => k.elim0)
    (X := start m) (Y := fun c => iprop(outPts c Finset.univ fullShare (gath (xstg m)) ∗ unscopedSems0 c)) (Z := fun _ => iprop(emp))
    (hX := start_intro m ρ) (hin := phi0_intro m) (hout := phi1_exit m)
    (QY := fun c s => s.mem ((c : Thread nD τ).loc main_v1) = gath (xstg m)
      ∧ ∀ sm : SemLoc sig, sm.isScoped .tc = false → s.sem ((c.tc : Thread nD τ), sm) = 0)
    (hY := fun c s' => by
      unfold outPts
      iintro ⟨⟨Hout, Hu⟩, -, HSI⟩
      icombine HSI Hout gives %h
      imod (Pipeline.unscopedSems0_read (X := unscopedSems0 c) (c := c) fupd_intro s') $$ [Hu HSI] with ⟨%hs, HSI⟩
      · isplitl [Hu] <;> iassumption
      imodintro
      isplitr
      · ipureintro; exact ⟨Buf.eq_of_forall_mem_univ h, hs⟩
      iexact HSI)
    (hQ := fun _ h hs => ⟨fun c => ⟨(h c).2.2.1, ((h c).1 (0 : Fin 1)).trans ((dats (F := F) m 0 c).arrAt_in (0 : Fin 1) rfl _)⟩, sem_eq_zero hs fun c => (h c).2.2.2⟩)

end Cert.AllGather
-- ==== Proof.Value.lean ====
/-
# The values: the gathered array is the reference's argument

A device's block is staged whole, so what the kernel gathers are the devices' arguments; cut from one array, they
gather to that array. The reference returns its argument: it has no operation.
-/
module

public import proofs.«01_k».proof.Proof.Run
public import proofs.«01_k».proof.Proof.Gen.ReferenceIdeal
public import Idealize.ShloMosaic.Lib.Layout
public import Idealize.ShloMosaic.Lib.Quiescent
public import Idealize.ShloMosaic.Lib.StableHlo.Run

@[expose] public section

noncomputable section

namespace Cert.AllGather

open Idealize.ShloMosaic Idealize.SL.Sem
open Idealize.ShloMosaic.TcCoe

variable {F : FTy → Type} [FloatOps F]

section
open Cert.KernelIdeal Cert.KernelIdeal.Gen

variable (m : (ℓ : Loc nD τ sig) → Buf (Elt F) ℓ)

omit [FloatOps F] in
/-- The window's one block is the whole argument. -/
theorem xstg_eq (c : Dev nD) : xstg m c = m ((c : Thread nD τ).loc main_arg0) := by
  funext i
  show m ((c : Thread nD τ).loc main_arg0) _ = m ((c : Thread nD τ).loc main_arg0) i
  congr 1
  funext a
  apply Fin.ext
  rw [ValueKit.view_emb_slice_whole_unit_val]
  show 0 * _ + _ = _
  rw [Nat.zero_mul, Nat.zero_add]

omit [FloatOps F] in
/-- Blocks cut from one array gather to it. -/
theorem gath_block (v : Res F)
    (h : ∀ c : Dev nD, m ((c : Thread nD τ).loc main_arg0) = Layout.block ⟨2, ![4096, 1024]⟩ ⟨2, ![65536, 1024]⟩ 0 16 c v) :
    gath (xstg m) = v := by
  funext i
  unfold gath
  rw [xstg_eq, h]
  show v _ = v i
  congr 1
  funext a
  apply Fin.ext
  fin_cases a
  · show (i 0).val / 4096 * 4096 + (i 0).val % 4096 = (i 0).val
    omega
  · rfl

end

section
open Cert.ReferenceIdeal

/-- The reference has no operation: from any memory with zero counters it ends, every buffer unchanged and every
    counter zero (it declares none). -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems rfl r.2⟩)
    (StableHlo.run_seq (by decide) (by decide) defs main (fun _ => []) (fun _ => rfl) (fun _ => trivial) m ρ)

end

end Cert.AllGather
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The bits program's body table is the ideal program's: the two have one text. -/
theorem defs₀_eq : Cert.Kernel.defs₀ (F := Bits) = Cert.KernelIdeal.defs₀ (F := Bits) := by
  unfold Cert.Kernel.defs₀ Cert.KernelIdeal.defs₀
  refine congrArg Defs.onTc ?_
  funext ℓ a
  match ℓ, a with
  | ⟨0, _⟩, ⟨t, s⟩ => rfl
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) defs₀_eq

/-- The kernel on the bits: it ends with its argument unchanged, every counter at zero. -/
theorem frame_kernel : Cert.quiescent_Kernel := fun m ρ _ => by
  rw [defs_eq]
  exact (θ_run Cert.KernelIdeal.defs _ _).mono (fun _ h => ⟨fun c => (h.1 c).2, h.2⟩) (Cert.AllGather.run_main (F := Bits) m ρ)

/-- The same on the ideal floats. -/
theorem frame_kernelIdeal : Cert.quiescent_KernelIdeal := fun m ρ _ =>
  (θ_run Cert.KernelIdeal.defs _ _).mono (fun _ h => ⟨fun c => (h.1 c).2, h.2⟩) (Cert.AllGather.run_main (F := Ideal) m ρ)

/-- And the reference. -/
theorem frame_referenceIdeal : Cert.quiescent_ReferenceIdeal := fun m ρ _ => Cert.AllGather.run_ref (F := Ideal) m ρ

/-- On the ideal floats, every device's result is the reference's. -/
theorem value : Cert.algebraic_KernelIdeal_ReferenceIdeal := fun m ρ m' ρ' _ hm =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c => ⟨(h.1 c).1.trans (Cert.AllGather.gath_block m _ hm), (h.1 c).2⟩)
      (Cert.AllGather.run_main (F := Ideal) m ρ),
    (θ_run Cert.ReferenceIdeal.defs _ _).mono (fun _ h => ⟨h.1 0, h.1 0⟩) (Cert.AllGather.run_ref (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
